-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v7)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v7) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v53) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Ffn_FfnIdeal : Prop :=
  IdealRules.named_const.Statement Cert.FfnIdeal.κ "mask" .f32 0xF149F2CA#32 ⊥

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v3_0)) (v1 : (c : Dev Cert.InprojIdeal.nD) → Buf (Elt Ideal) ((c.tc : Thread Cert.InprojIdeal.nD Cert.InprojIdeal.τ).loc Cert.InprojIdeal.main_v3_1)) (v2 : (c : Dev Cert.InprojIdeal.nD) → Buf (Elt Ideal) ((c.tc : Thread Cert.InprojIdeal.nD Cert.InprojIdeal.τ).loc Cert.InprojIdeal.main_v3_2)) (v3 : (c : Dev Cert.InprojIdeal.nD) → Buf (Elt Ideal) ((c.tc : Thread Cert.InprojIdeal.nD Cert.InprojIdeal.τ).loc Cert.InprojIdeal.main_v3_3)) (v4 : (c : Dev Cert.InprojIdeal.nD) → Buf (Elt Ideal) ((c.tc : Thread Cert.InprojIdeal.nD Cert.InprojIdeal.τ).loc Cert.InprojIdeal.main_v3_4)) (v5 : (c : Dev Cert.InprojIdeal.nD) → Buf (Elt Ideal) ((c.tc : Thread Cert.InprojIdeal.nD Cert.InprojIdeal.τ).loc Cert.InprojIdeal.main_v3_5)) (v6 : (c : Dev Cert.InprojIdeal.nD) → Buf (Elt Ideal) ((c.tc : Thread Cert.InprojIdeal.nD Cert.InprojIdeal.τ).loc Cert.InprojIdeal.main_v3_6)) (v7 : (c : Dev Cert.InprojIdeal.nD) → Buf (Elt Ideal) ((c.tc : Thread Cert.InprojIdeal.nD Cert.InprojIdeal.τ).loc Cert.InprojIdeal.main_v3_7)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3_0) = v0 c
          ∧ r.2.mem ((c.tc : Thread Cert.InprojIdeal.nD Cert.InprojIdeal.τ).loc Cert.InprojIdeal.main_v3_1) = v1 c
          ∧ r.2.mem ((c.tc : Thread Cert.InprojIdeal.nD Cert.InprojIdeal.τ).loc Cert.InprojIdeal.main_v3_2) = v2 c
          ∧ r.2.mem ((c.tc : Thread Cert.InprojIdeal.nD Cert.InprojIdeal.τ).loc Cert.InprojIdeal.main_v3_3) = v3 c
          ∧ r.2.mem ((c.tc : Thread Cert.InprojIdeal.nD Cert.InprojIdeal.τ).loc Cert.InprojIdeal.main_v3_4) = v4 c
          ∧ r.2.mem ((c.tc : Thread Cert.InprojIdeal.nD Cert.InprojIdeal.τ).loc Cert.InprojIdeal.main_v3_5) = v5 c
          ∧ r.2.mem ((c.tc : Thread Cert.InprojIdeal.nD Cert.InprojIdeal.τ).loc Cert.InprojIdeal.main_v3_6) = v6 c
          ∧ r.2.mem ((c.tc : Thread Cert.InprojIdeal.nD Cert.InprojIdeal.τ).loc Cert.InprojIdeal.main_v3_7) = v7 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v46) = v0 c
          ∧ r.2.mem ((c.tc : Thread Cert.InprojRefIdeal.nD Cert.InprojRefIdeal.τ).loc Cert.InprojRefIdeal.main_v48) = v1 c
          ∧ r.2.mem ((c.tc : Thread Cert.InprojRefIdeal.nD Cert.InprojRefIdeal.τ).loc Cert.InprojRefIdeal.main_v50) = v2 c
          ∧ r.2.mem ((c.tc : Thread Cert.InprojRefIdeal.nD Cert.InprojRefIdeal.τ).loc Cert.InprojRefIdeal.main_v52) = v3 c
          ∧ r.2.mem ((c.tc : Thread Cert.InprojRefIdeal.nD Cert.InprojRefIdeal.τ).loc Cert.InprojRefIdeal.main_v54) = v4 c
          ∧ r.2.mem ((c.tc : Thread Cert.InprojRefIdeal.nD Cert.InprojRefIdeal.τ).loc Cert.InprojRefIdeal.main_v56) = v5 c
          ∧ r.2.mem ((c.tc : Thread Cert.InprojRefIdeal.nD Cert.InprojRefIdeal.τ).loc Cert.InprojRefIdeal.main_v57) = v6 c
          ∧ r.2.mem ((c.tc : Thread Cert.InprojRefIdeal.nD Cert.InprojRefIdeal.τ).loc Cert.InprojRefIdeal.main_v58) = v7 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Mix_MixIdeal : Prop :=
  IdealRules.named_const.Statement Cert.MixIdeal.κ "mask" .f32 0xF149F2CA#32 ⊥

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v11_0)) (v1 : (c : Dev Cert.MixIdeal.nD) → Buf (Elt Ideal) ((c.tc : Thread Cert.MixIdeal.nD Cert.MixIdeal.τ).loc Cert.MixIdeal.main_v11_1)) (v2 : (c : Dev Cert.MixIdeal.nD) → Buf (Elt Ideal) ((c.tc : Thread Cert.MixIdeal.nD Cert.MixIdeal.τ).loc Cert.MixIdeal.main_v11_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11_0) = v0 c
          ∧ r.2.mem ((c.tc : Thread Cert.MixIdeal.nD Cert.MixIdeal.τ).loc Cert.MixIdeal.main_v11_1) = v1 c
          ∧ r.2.mem ((c.tc : Thread Cert.MixIdeal.nD Cert.MixIdeal.τ).loc Cert.MixIdeal.main_v11_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v46) = v0 c
          ∧ r.2.mem ((c.tc : Thread Cert.MixRefIdeal.nD Cert.MixRefIdeal.τ).loc Cert.MixRefIdeal.main_v70) = v1 c
          ∧ r.2.mem ((c.tc : Thread Cert.MixRefIdeal.nD Cert.MixRefIdeal.τ).loc Cert.MixRefIdeal.main_v81) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hMix : Cert.Mix.Facts) (hMixIdeal : Cert.MixIdeal.Facts) (hMixRefIdeal : Cert.MixRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Mix (hMix := hMix)
    ∧ quiescent_MixIdeal (hMixIdeal := hMixIdeal)
    ∧ quiescent_MixRefIdeal (hMixRefIdeal := hMixRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Mix_MixIdeal
    ∧ algebraic_MixIdeal_MixRefIdeal (hMixIdeal := hMixIdeal) (hMixRefIdeal := hMixRefIdeal)
-- ==== Pre_finite_scores.lean ====
abbrev S2048x768 : Shape := ⟨2, ![2048, 768]⟩
abbrev S2x1x6x256x128 : Shape := ⟨5, ![2, 1, 6, 256, 128]⟩
abbrev S1x1 : Shape := ⟨2, ![1, 1]⟩
abbrev S1x128 : Shape := ⟨2, ![1, 128]⟩
abbrev S_ : Shape := ⟨0, ![]⟩

class Facts : Prop where
  bcast_S_S2048x768 : S_.BroadcastsInDim S2048x768 (![] : Fin 0 → Fin S2048x768.rank)
  bcast_S_S2x1x6x256x128 : S_.BroadcastsInDim S2x1x6x256x128 (![] : Fin 0 → Fin S2x1x6x256x128.rank)

variable [Facts]

def fn {F : FTy → Type} [FloatOps F] (main_arg0 : FVec F S2048x768 .f32) (main_arg1 : FVec F S2048x768 .f32) (main_arg2 : FVec F S2048x768 .f32) (main_arg3 : FVec F S2x1x6x256x128 .f32) (main_arg4 : FVec F S2x1x6x256x128 .f32) (main_arg5 : FVec F S1x1 .f32) (main_arg6 : FVec F S1x128 .f32) : IVec S2048x768 1 × IVec S2048x768 1 × IVec S2x1x6x256x128 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_v3 : FVec F S2048x768 .f32 := Host.absf main_arg1
  let main_cst_0 : FVec F S_ .f32 := constant S_ .f32 0x7F800000#32
  let main_v4 : FVec F S2048x768 .f32 := broadcastInDim S2048x768 ![] bcast_S_S2048x768 main_cst_0
  let main_v5 : IVec S2048x768 1 := cmpf .olt main_v3 main_v4
  let main_v6 : FVec F S2x1x6x256x128 .f32 := Host.absf main_arg3
  let main_cst_1 : FVec F S_ .f32 := constant S_ .f32 0x7F800000#32
  let main_v7 : FVec F S2x1x6x256x128 .f32 := broadcastInDim S2x1x6x256x128 ![] bcast_S_S2x1x6x256x128 main_cst_1
  let main_v8 : IVec S2x1x6x256x128 1 := cmpf .olt main_v6 main_v7
  (main_v2, main_v5, main_v8)
-- ==== Attn.lean ====
abbrev S2048x768 : Shape := ⟨2, ![2048, 768]⟩
abbrev S2x1x6x256x128 : Shape := ⟨5, ![2, 1, 6, 256, 128]⟩
abbrev S1x1 : Shape := ⟨2, ![1, 1]⟩
abbrev S1x128 : Shape := ⟨2, ![1, 128]⟩
abbrev S_ : Shape := ⟨0, ![]⟩
abbrev S8x128 : Shape := ⟨2, ![8, 128]⟩
abbrev S128x1 : Shape := ⟨2, ![128, 1]⟩
abbrev S256x768 : Shape := ⟨2, ![256, 768]⟩
abbrev S1024x768 : Shape := ⟨2, ![1024, 768]⟩
abbrev S1x1x6x256x128 : Shape := ⟨5, ![1, 1, 6, 256, 128]⟩
abbrev S256x128 : Shape := ⟨2, ![256, 128]⟩
abbrev S1x1x1x256x128 : Shape := ⟨5, ![1, 1, 1, 256, 128]⟩
abbrev S1024x128 : Shape := ⟨2, ![1024, 128]⟩
abbrev S256x256 : Shape := ⟨2, ![256, 256]⟩
abbrev S1024x256 : Shape := ⟨2, ![1024, 256]⟩
abbrev S256 : Shape := ⟨1, ![256]⟩
abbrev S1x256 : Shape := ⟨2, ![1, 256]⟩
abbrev S128x256 : Shape := ⟨2, ![128, 256]⟩

abbrev nBuf : Space → Nat
  | .hbm => 16
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2x1x6x256x128, .f32⟩
  | .hbm, ⟨4, _⟩ => ⟨S2x1x6x256x128, .f32⟩
  | .hbm, ⟨5, _⟩ => ⟨S1x1, .f32⟩
  | .hbm, ⟨6, _⟩ => ⟨S1x128, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .bf16⟩
  | .hbm, ⟨11, _⟩ => ⟨S2048x768, .bf16⟩
  | .hbm, ⟨12, _⟩ => ⟨S2048x768, .bf16⟩
  | .hbm, ⟨13, _⟩ => ⟨S8x128, .f32⟩
  | .hbm, ⟨14, _⟩ => ⟨S128x1, .f32⟩
  | .hbm, ⟨15, _⟩ => ⟨S2048x768, .bf16⟩
  | .local _ .vmem, ⟨0, _⟩ => ⟨S256x768, .bf16⟩
  | .local _ .vmem, ⟨1, _⟩ => ⟨S256x768, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1x1x6x256x128, .f32⟩
  | .local _ .vmem, ⟨7, _⟩ => ⟨S1x1x6x256x128, .f32⟩
  | .local _ .vmem, ⟨8, _⟩ => ⟨S1x1x6x256x128, .f32⟩
  | .local _ .vmem, ⟨9, _⟩ => ⟨S1x1x6x256x128, .f32⟩
  | .local _ .vmem, ⟨10, _⟩ => ⟨S8x128, .f32⟩
  | .local _ .vmem, ⟨11, _⟩ => ⟨S128x1, .f32⟩
  | .local _ .vmem, ⟨12, _⟩ => ⟨S256x768, .bf16⟩
  | .local _ .vmem, ⟨13, _⟩ => ⟨S256x768, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![v16.toNat, c0_i32_4.toNat, c0_i32_5.toNat, c0_i32_6.toNat, c0_i32_7.toNat]

def cc0_transform_4 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![v16.toNat, c0_i32_4.toNat, c0_i32_5.toNat, c0_i32_6.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnRefIdeal.lean ====
abbrev S2048x768 : Shape := ⟨2, ![2048, 768]⟩
abbrev S2x1x6x256x128 : Shape := ⟨5, ![2, 1, 6, 256, 128]⟩
abbrev S1x1 : Shape := ⟨2, ![1, 1]⟩
abbrev S1x128 : Shape := ⟨2, ![1, 128]⟩
abbrev S2x1024x6x2x64 : Shape := ⟨5, ![2, 1024, 6, 2, 64]⟩
abbrev S2x6x2x1024x64 : Shape := ⟨5, ![2, 6, 2, 1024, 64]⟩
abbrev S2x1024x6x128 : Shape := ⟨4, ![2, 1024, 6, 128]⟩
abbrev S2x6x1024x128 : Shape := ⟨4, ![2, 6, 1024, 128]⟩
abbrev S2x6x256x128 : Shape := ⟨4, ![2, 6, 256, 128]⟩
abbrev S2x6x256x2x64 : Shape := ⟨5, ![2, 6, 256, 2, 64]⟩
abbrev S2x6x2x256x64 : Shape := ⟨5, ![2, 6, 2, 256, 64]⟩
abbrev S2x6x2x1280x64 : Shape := ⟨5, ![2, 6, 2, 1280, 64]⟩
abbrev S2x6x1280x128 : Shape := ⟨4, ![2, 6, 1280, 128]⟩
abbrev S1x1x1x1 : Shape := ⟨4, ![1, 1, 1, 1]⟩
abbrev S2x6x2x1024x1280 : Shape := ⟨5, ![2, 6, 2, 1024, 1280]⟩
abbrev S_ : Shape := ⟨0, ![]⟩
abbrev S2x6x2x1024 : Shape := ⟨4, ![2, 6, 2, 1024]⟩
abbrev S2x6x2x1024x1 : Shape := ⟨5, ![2, 6, 2, 1024, 1]⟩
abbrev S2x6x1x1024x1280 : Shape := ⟨5, ![2, 6, 1, 1024, 1280]⟩
abbrev S2x6x1024x1280 : Shape := ⟨4, ![2, 6, 1024, 1280]⟩
abbrev S128 : Shape := ⟨1, ![128]⟩
abbrev S2x6x1024 : Shape := ⟨3, ![2, 6, 1024]⟩
abbrev S2x6x1024x1 : Shape := ⟨4, ![2, 6, 1024, 1]⟩
abbrev S1x1x1x128 : Shape := ⟨4, ![1, 1, 1, 128]⟩

abbrev nBuf : Space → Nat
  | .hbm => 69
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2x1x6x256x128, .f32⟩
  | .hbm, ⟨4, _⟩ => ⟨S2x1x6x256x128, .f32⟩
  | .hbm, ⟨5, _⟩ => ⟨S1x1, .f32⟩
  | .hbm, ⟨6, _⟩ => ⟨S1x128, .f32⟩
  | .hbm, ⟨7, _⟩ => ⟨S2x1024x6x2x64, .f32⟩
  | .hbm, ⟨8, _⟩ => ⟨S2x6x2x1024x64, .f32⟩
  | .hbm, ⟨9, _⟩ => ⟨S2x1024x6x2x64, .f32⟩
  | .hbm, ⟨10, _⟩ => ⟨S2x6x2x1024x64, .f32⟩
  | .hbm, ⟨11, _⟩ => ⟨S2x1024x6x128, .f32⟩
  | .hbm, ⟨12, _⟩ => ⟨S2x6x1024x128, .f32⟩
  | .hbm, ⟨13, _⟩ => ⟨S2x6x256x128, .f32⟩
  | .hbm, ⟨14, _⟩ => ⟨S2x6x256x2x64, .f32⟩
  | .hbm, ⟨15, _⟩ => ⟨S2x6x2x256x64, .f32⟩
  | .hbm, ⟨16, _⟩ => ⟨S2x6x256x128, .f32⟩
  | .hbm, ⟨17, _⟩ => ⟨S2x6x2x1280x64, .f32⟩
  | .hbm, ⟨18, _⟩ => ⟨S2x6x1280x128, .f32⟩
  | .hbm, ⟨19, _⟩ => ⟨S1x1x1x1, .f32⟩
  | .hbm, ⟨20, _⟩ => ⟨S2x6x2x1024x1280, .f32⟩
  | .hbm, ⟨21, _⟩ => ⟨S_, .f32⟩
  | .hbm, ⟨22, _⟩ => ⟨S2x6x2x1024x1280, .f32⟩
  | .hbm, ⟨23, _⟩ => ⟨S2x6x2x1024x1280, .f32⟩
  | .hbm, ⟨24, _⟩ => ⟨S_, .f32⟩
  | .hbm, ⟨25, _⟩ => ⟨S2x6x2x1024, .f32⟩
  | .hbm, ⟨26, _⟩ => ⟨S_, .f32⟩
  | .hbm, ⟨27, _⟩ => ⟨S2x6x2x1024, .f32⟩
  | .hbm, ⟨28, _⟩ => ⟨S2x6x2x1024, .f32⟩
  | .hbm, ⟨29, _⟩ => ⟨S2x6x2x1024x1, .f32⟩
  | .hbm, ⟨30, _⟩ => ⟨S2x6x2x1024x1280, .f32⟩
  | .hbm, ⟨31, _⟩ => ⟨S2x6x2x1024x1280, .f32⟩
  | .hbm, ⟨32, _⟩ => ⟨S2x6x2x1024x1280, .f32⟩
  | .hbm, ⟨33, _⟩ => ⟨S_, .f32⟩
  | .hbm, ⟨34, _⟩ => ⟨S2x6x2x1024, .f32⟩
  | .hbm, ⟨35, _⟩ => ⟨S2x6x2x1024x1, .f32⟩
  | .hbm, ⟨36, _⟩ => ⟨S2x6x2x1024x1280, .f32⟩
  | .hbm, ⟨37, _⟩ => ⟨S2x6x2x1024x1280, .f32⟩
  | .hbm, ⟨38, _⟩ => ⟨S2x6x1x1024x1280, .f32⟩
  | .hbm, ⟨39, _⟩ => ⟨S2x6x1024x1280, .f32⟩
  | .hbm, ⟨40, _⟩ => ⟨S2x6x1x1024x1280, .f32⟩
  | .hbm, ⟨41, _⟩ => ⟨S2x6x1024x1280, .f32⟩
  | .hbm, ⟨42, _⟩ => ⟨S2x6x1024x1280, .f32⟩
  | .hbm, ⟨43, _⟩ => ⟨S2x6x1024x1280, .f32⟩
  | .hbm, ⟨44, _⟩ => ⟨S2x6x1024x1280, .f32⟩
  | .hbm, ⟨45, _⟩ => ⟨S2x6x1024x128, .f32⟩
  | .hbm, ⟨46, _⟩ => ⟨S128, .f32⟩
  | .hbm, ⟨47, _⟩ => ⟨S2x6x1024x128, .f32⟩
  | .hbm, ⟨48, _⟩ => ⟨S_, .f32⟩
  | .hbm, ⟨49, _⟩ => ⟨S2x6x1024, .f32⟩
  | .hbm, ⟨50, _⟩ => ⟨S2x6x1024x1, .f32⟩
  | .hbm, ⟨51, _⟩ => ⟨S_, .f32⟩
  | .hbm, ⟨52, _⟩ => ⟨S2x6x1024x1, .f32⟩
  | .hbm, ⟨53, _⟩ => ⟨S2x6x1024x1, .f32⟩
  | .hbm, ⟨54, _⟩ => ⟨S_, .f32⟩
  | .hbm, ⟨55, _⟩ => ⟨S2x6x1024x1, .f32⟩
  | .hbm, ⟨56, _⟩ => ⟨S2x6x1024x1, .f32⟩
  | .hbm, ⟨57, _⟩ => ⟨S2x6x1024x1, .f32⟩
  | .hbm, ⟨58, _⟩ => ⟨S2x6x1024x128, .f32⟩
  | .hbm, ⟨59, _⟩ => ⟨S2x6x1024x128, .f32⟩
  | .hbm, ⟨60, _⟩ => ⟨S1x1x1x128, .f32⟩
  | .hbm, ⟨61, _⟩ => ⟨S2x6x1024x128, .f32⟩
  | .hbm, ⟨62, _⟩ => ⟨S2x6x1024x128, .f32⟩
  | .hbm, ⟨63, _⟩ => ⟨S_, .f32⟩
  | .hbm, ⟨64, _⟩ => ⟨S2x6x1024x128, .f32⟩
  | .hbm, ⟨65, _⟩ => ⟨S2x6x1024x128, .f32⟩
  | .hbm, ⟨66, _⟩ => ⟨S2x1024x6x128, .f32⟩
  | .hbm, ⟨67, _⟩ => ⟨S2048x768, .f32⟩
  | .hbm, ⟨68, _⟩ => ⟨S2048x768, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Ffn.lean ====
abbrev S16x1280x1024 : Shape := ⟨3, ![16, 1280, 1024]⟩
abbrev S1x1024x16 : Shape := ⟨3, ![1, 1024, 16]⟩
abbrev S1x16x1024x2816 : Shape := ⟨4, ![1, 16, 1024, 2816]⟩
abbrev S1x16x2816x1024 : Shape := ⟨4, ![1, 16, 2816, 1024]⟩
abbrev S1024x16 : Shape := ⟨2, ![1024, 16]⟩
abbrev S_ : Shape := ⟨0, ![]⟩
abbrev S1024x128 : Shape := ⟨2, ![1024, 128]⟩
abbrev S16x11264x128 : Shape := ⟨3, ![16, 11264, 128]⟩
abbrev S1x1280x1024 : Shape := ⟨3, ![1, 1280, 1024]⟩
abbrev S1x1x1024x256 : Shape := ⟨4, ![1, 1, 1024, 256]⟩
abbrev S1x1x256x1024 : Shape := ⟨4, ![1, 1, 256, 1024]⟩
abbrev S1x11264x128 : Shape := ⟨3, ![1, 11264, 128]⟩
abbrev S1280x1024 : Shape := ⟨2, ![1280, 1024]⟩
abbrev S1024x256 : Shape := ⟨2, ![1024, 256]⟩
abbrev S1280x256 : Shape := ⟨2, ![1280, 256]⟩
abbrev S256x1024 : Shape := ⟨2, ![256, 1024]⟩
abbrev S1280x128 : Shape := ⟨2, ![1280, 128]⟩
abbrev S1280 : Shape := ⟨1, ![1280]⟩
abbrev S1280x1 : Shape := ⟨2, ![1280, 1]⟩
abbrev S1x1280x128 : Shape := ⟨3, ![1, 1280, 128]⟩
abbrev S1x1024x128 : Shape := ⟨3, ![1, 1024, 128]⟩

abbrev nBuf : Space → Nat
  | .hbm => 12
  | .vmem => 30
  | .smem => 0
  | _ => 0

abbrev bufTy : (tb : Table) → Fin (tcTables nBuf tb) → BufTy
  | .hbm, ⟨0, _⟩ => ⟨S16x1280x1024, .f32⟩
  | .hbm, ⟨1, _⟩ => ⟨S1x1024x16, .f32⟩
  | .hbm, ⟨2, _⟩ => ⟨S1x16x1024x2816, .f32⟩
  | .hbm, ⟨3, _⟩ => ⟨S1x16x1024x2816, .f32⟩
  | .hbm, ⟨4, _⟩ => ⟨S1x16x2816x1024, .f32⟩
  | .hbm, ⟨5, _⟩ => ⟨S1024x16, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S16x1280x1024, .bf16⟩
  | .hbm, ⟨11, _⟩ => ⟨S16x11264x128, .f32⟩
  | .local _ .vmem, ⟨0, _⟩ => ⟨S1x1280x1024, .bf16⟩
  | .local _ .vmem, ⟨1, _⟩ => ⟨S1x1280x1024, .bf16⟩
  | .local _ .vmem, ⟨2, _⟩ => ⟨S1024x128, .bf16⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x1024x256, .f32⟩
  | .local _ .vmem, ⟨7, _⟩ => ⟨S1x1x256x1024, .f32⟩
  | .local _ .vmem, ⟨8, _⟩ => ⟨S1x1x256x1024, .f32⟩
  | .local _ .vmem, ⟨9, _⟩ => ⟨S1x1x1024x256, .f32⟩
  | .local _ .vmem, ⟨10, _⟩ => ⟨S1x1x1024x256, .f32⟩
  | .local _ .vmem, ⟨11, _⟩ => ⟨S1x1x1024x256, .f32⟩
  | .local _ .vmem, ⟨12, _⟩ => ⟨S1x1x1024x256, .f32⟩
  | .local _ .vmem, ⟨13, _⟩ => ⟨S1x1x256x1024, .f32⟩
  | .local _ .vmem, ⟨14, _⟩ => ⟨S1x1x256x1024, .f32⟩
  | .local _ .vmem, ⟨15, _⟩ => ⟨S1x1x1024x256, .f32⟩
  | .local _ .vmem, ⟨16, _⟩ => ⟨S1x1x1024x256, .f32⟩
  | .local _ .vmem, ⟨17, _⟩ => ⟨S1x1x1024x256, .f32⟩
  | .local _ .vmem, ⟨18, _⟩ => ⟨S1x1x1024x256, .f32⟩
  | .local _ .vmem, ⟨19, _⟩ => ⟨S1x1x256x1024, .f32⟩
  | .local _ .vmem, ⟨20, _⟩ => ⟨S1x1x256x1024, .f32⟩
  | .local _ .vmem, ⟨21, _⟩ => ⟨S1x1x1024x256, .f32⟩
  | .local _ .vmem, ⟨22, _⟩ => ⟨S1x1x1024x256, .f32⟩
  | .local _ .vmem, ⟨23, _⟩ => ⟨S1x1x1024x256, .f32⟩
  | .local _ .vmem, ⟨24, _⟩ => ⟨S1x1x1024x256, .f32⟩
  | .local _ .vmem, ⟨25, _⟩ => ⟨S1x1x256x1024, .f32⟩
  | .local _ .vmem, ⟨26, _⟩ => ⟨S1x1x256x1024, .f32⟩
  | .local _ .vmem, ⟨27, _⟩ => ⟨S1x11264x128, .f32⟩
  | .local _ .vmem, ⟨28, _⟩ => ⟨S1x11264x128, .f32⟩
  | .local _ .vmem, ⟨29, _⟩ => ⟨S1280x1024, .f32⟩
  | _, _ => ⟨S16x1280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![16, 3], ![false, false]⟩

def k0_cond3 (i : grid0.Coords) : BitVec 1 :=
  let arg1 : BitVec 32 := BitVec.ofNat 32 (i 1).val
  let c2_i32 : BitVec 32 := 2#32
  let v78 : BitVec 1 := Scalar.cmpi .eq arg1 c2_i32
  let v79 : BitVec 32 := Scalar.extui v78
  let c0_i32_63 : BitVec 32 := 0#32
  let v80 : BitVec 1 := Scalar.cmpi .ne v79 c0_i32_63
  v80

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  let c0_i32_2 : BitVec 32 := 0#32
  ![c0_i32_0.toNat, arg0.toNat, c0_i32_1.toNat, v2.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  let c0_i32_2 : BitVec 32 := 0#32
  ![c0_i32_0.toNat, arg0.toNat, c0_i32_1.toNat, v2.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  let c0_i32_2 : BitVec 32 := 0#32
  ![c0_i32_0.toNat, arg0.toNat, v2.toNat, c0_i32_1.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, arg0.toNat, c0_i32_0.toNat, v2.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, arg0.toNat, c0_i32_0.toNat, v2.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, arg0.toNat, v2.toNat, c0_i32_0.toNat]

def cc0_transform_8 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, arg0.toNat, c0_i32_0.toNat, v2.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, arg0.toNat, c0_i32_0.toNat, v2.toNat]

def cc0_transform_10 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, arg0.toNat, v2.toNat, c0_i32_0.toNat]

def cc0_transform_11 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, arg0.toNat, c0_i32_0.toNat, v2.toNat]

def cc0_transform_12 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, arg0.toNat, c0_i32_0.toNat, v2.toNat]

def cc0_transform_13 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, arg0.toNat, v2.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x11264x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnIdeal.lean ====
variable {F : FTy → Type} [FloatOps F] [Named F]
def κ : String → Option EReal := fun
  | "mask" => some ⊥
  | _ => none
-- ==== FfnRefIdeal.lean ====
abbrev S16x1280x1024 : Shape := ⟨3, ![16, 1280, 1024]⟩
abbrev S1x1024x16 : Shape := ⟨3, ![1, 1024, 16]⟩
abbrev S1x16x1024x2816 : Shape := ⟨4, ![1, 16, 1024, 2816]⟩
abbrev S1x16x2816x1024 : Shape := ⟨4, ![1, 16, 2816, 1024]⟩
abbrev S1024x16 : Shape := ⟨2, ![1024, 16]⟩
abbrev S16x1280x16 : Shape := ⟨3, ![16, 1280, 16]⟩
abbrev S_ : Shape := ⟨0, ![]⟩
abbrev S16x1280 : Shape := ⟨2, ![16, 1280]⟩
abbrev S16x1280x1 : Shape := ⟨3, ![16, 1280, 1]⟩
abbrev S16x16 : Shape := ⟨2, ![16, 16]⟩
abbrev S1280x16 : Shape := ⟨2, ![1280, 16]⟩
abbrev S16x1024x2816 : Shape := ⟨3, ![16, 1024, 2816]⟩
abbrev S16x1280x2816 : Shape := ⟨3, ![16, 1280, 2816]⟩
abbrev S16x2816x1024 : Shape := ⟨3, ![16, 2816, 1024]⟩
abbrev S16x1408x1024 : Shape := ⟨3, ![16, 1408, 1024]⟩
abbrev S16x11264x128 : Shape := ⟨3, ![16, 11264, 128]⟩

abbrev nBuf : Space → Nat
  | .hbm => 54
  | .vmem => 0
  | .smem => 0
  | _ => 0

abbrev bufTy : (tb : Table) → Fin (tcTables nBuf tb) → BufTy
  | .hbm, ⟨0, _⟩ => ⟨S16x1280x1024, .f32⟩
  | .hbm, ⟨1, _⟩ => ⟨S1x1024x16, .f32⟩
  | .hbm, ⟨2, _⟩ => ⟨S1x16x1024x2816, .f32⟩
  | .hbm, ⟨3, _⟩ => ⟨S1x16x1024x2816, .f32⟩
  | .hbm, ⟨4, _⟩ => ⟨S1x16x2816x1024, .f32⟩
  | .hbm, ⟨5, _⟩ => ⟨S1024x16, .f32⟩
  | .hbm, ⟨6, _⟩ => ⟨S16x1280x16, .f32⟩
  | .hbm, ⟨7, _⟩ => ⟨S_, .f32⟩
  | .hbm, ⟨8, _⟩ => ⟨S16x1280, .f32⟩
  | .hbm, ⟨9, _⟩ => ⟨S_, .f32⟩
  | .hbm, ⟨10, _⟩ => ⟨S16x1280, .f32⟩
  | .hbm, ⟨11, _⟩ => ⟨S16x1280, .f32⟩
  | .hbm, ⟨12, _⟩ => ⟨S16x1280x1, .f32⟩
  | .hbm, ⟨13, _⟩ => ⟨S16x1280x16, .f32⟩
  | .hbm, ⟨14, _⟩ => ⟨S16x1280x16, .f32⟩
  | .hbm, ⟨15, _⟩ => ⟨S16x1280x16, .f32⟩
  | .hbm, ⟨16, _⟩ => ⟨S_, .f32⟩
  | .hbm, ⟨17, _⟩ => ⟨S16x1280, .f32⟩
  | .hbm, ⟨18, _⟩ => ⟨S16x1280x1, .f32⟩
  | .hbm, ⟨19, _⟩ => ⟨S16x1280x16, .f32⟩
  | .hbm, ⟨20, _⟩ => ⟨S16x1280x16, .f32⟩
  | .hbm, ⟨21, _⟩ => ⟨S16x16, .i32⟩
  | .hbm, ⟨22, _⟩ => ⟨S16x16, .i32⟩
  | .hbm, ⟨23, _⟩ => ⟨S16x16, .i1⟩
  | .hbm, ⟨24, _⟩ => ⟨S16x1280x16, .i1⟩
  | .hbm, ⟨25, _⟩ => ⟨S_, .f32⟩
  | .hbm, ⟨26, _⟩ => ⟨S16x1280x16, .f32⟩
  | .hbm, ⟨27, _⟩ => ⟨S16x1280x16, .f32⟩
  | .hbm, ⟨28, _⟩ => ⟨S_, .f32⟩
  | .hbm, ⟨29, _⟩ => ⟨S1280x16, .f32⟩
  | .hbm, ⟨30, _⟩ => ⟨S16x1280, .f32⟩
  | .hbm, ⟨31, _⟩ => ⟨S16x1024x2816, .f32⟩
  | .hbm, ⟨32, _⟩ => ⟨S16x1280x2816, .f32⟩
  | .hbm, ⟨33, _⟩ => ⟨S16x1280x2816, .f32⟩
  | .hbm, ⟨34, _⟩ => ⟨S16x1280x2816, .f32⟩
  | .hbm, ⟨35, _⟩ => ⟨S_, .f32⟩
  | .hbm, ⟨36, _⟩ => ⟨S16x1280x2816, .f32⟩
  | .hbm, ⟨37, _⟩ => ⟨S16x1280x2816, .f32⟩
  | .hbm, ⟨38, _⟩ => ⟨S_, .f32⟩
  | .hbm, ⟨39, _⟩ => ⟨S16x1280x2816, .f32⟩
  | .hbm, ⟨40, _⟩ => ⟨S16x1280x2816, .f32⟩
  | .hbm, ⟨41, _⟩ => ⟨S16x1280x2816, .f32⟩
  | .hbm, ⟨42, _⟩ => ⟨S16x1024x2816, .f32⟩
  | .hbm, ⟨43, _⟩ => ⟨S16x1280x2816, .f32⟩
  | .hbm, ⟨44, _⟩ => ⟨S16x1280x2816, .f32⟩
  | .hbm, ⟨45, _⟩ => ⟨S16x2816x1024, .f32⟩
  | .hbm, ⟨46, _⟩ => ⟨S16x1280x1024, .f32⟩
  | .hbm, ⟨47, _⟩ => ⟨S16x1280x1, .f32⟩
  | .hbm, ⟨48, _⟩ => ⟨S16x1280x1024, .f32⟩
  | .hbm, ⟨49, _⟩ => ⟨S16x1280x1024, .f32⟩
  | .hbm, ⟨50, _⟩ => ⟨S_, .i32⟩
  | .hbm, ⟨51, _⟩ => ⟨S_, .f32⟩
  | .hbm, ⟨52, _⟩ => ⟨S16x1408x1024, .f32⟩
  | .hbm, ⟨53, _⟩ => ⟨S16x11264x128, .f32⟩
  | _, _ => ⟨S16x1280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c : Ref sig .tc := ⟨.hbm, 50, rfl⟩
abbrev main_call1_v0 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Inproj.lean ====
abbrev S32x256x1024 : Shape := ⟨3, ![32, 256, 1024]⟩
abbrev S8x6144 : Shape := ⟨2, ![8, 6144]⟩
abbrev S1x1024 : Shape := ⟨2, ![1, 1024]⟩
abbrev S1x1024x4608 : Shape := ⟨3, ![1, 1024, 4608]⟩
abbrev S8192x1024 : Shape := ⟨2, ![8192, 1024]⟩
abbrev S8x1x6144 : Shape := ⟨3, ![8, 1, 6144]⟩
abbrev S1024x4608 : Shape := ⟨2, ![1024, 4608]⟩
abbrev S8192x768 : Shape := ⟨2, ![8192, 768]⟩
abbrev S8192x256 : Shape := ⟨2, ![8192, 256]⟩
abbrev S32x1x6x256x128 : Shape := ⟨5, ![32, 1, 6, 256, 128]⟩
abbrev S512x1024 : Shape := ⟨2, ![512, 1024]⟩
abbrev S1x1x6144 : Shape := ⟨3, ![1, 1, 6144]⟩
abbrev S512x768 : Shape := ⟨2, ![512, 768]⟩
abbrev S512x256 : Shape := ⟨2, ![512, 256]⟩
abbrev S2x1x6x256x128 : Shape := ⟨5, ![2, 1, 6, 256, 128]⟩
abbrev S1x6144 : Shape := ⟨2, ![1, 6144]⟩
abbrev S512 : Shape := ⟨1, ![512]⟩
abbrev S512x1 : Shape := ⟨2, ![512, 1]⟩
abbrev S1024x768 : Shape := ⟨2, ![1024, 768]⟩
abbrev S1024x256 : Shape := ⟨2, ![1024, 256]⟩
abbrev S1024x1024 : Shape := ⟨2, ![1024, 1024]⟩
abbrev S256x128 : Shape := ⟨2, ![256, 128]⟩
abbrev S1x1x1x256x128 : Shape := ⟨5, ![1, 1, 1, 256, 128]⟩

abbrev nBuf : Space → Nat
  | .hbm => 15
  | .vmem => 21
  | .smem => 0
  | _ => 0

abbrev bufTy : (tb : Table) → Fin (tcTables nBuf tb) → BufTy
  | .hbm, ⟨0, _⟩ => ⟨S32x256x1024, .f32⟩
  | .hbm, ⟨1, _⟩ => ⟨S8x6144, .f32⟩
  | .hbm, ⟨2, _⟩ => ⟨S1x1024, .f32⟩
  | .hbm, ⟨3, _⟩ => ⟨S1x1024x4608, .f32⟩
  | .hbm, ⟨4, _⟩ => ⟨S8192x1024, .f32⟩
  | .hbm, ⟨5, _⟩ => ⟨S8x1x6144, .f32⟩
  | .hbm, ⟨6, _⟩ => ⟨S1024x4608, .f32⟩
  | .hbm, ⟨7, _⟩ => ⟨S8192x768, .bf16⟩
  | .hbm, ⟨8, _⟩ => ⟨S8192x768, .bf16⟩
  | .hbm, ⟨9, _⟩ => ⟨S8192x768, .bf16⟩
  | .hbm, ⟨10, _⟩ => ⟨S8192x256, .bf16⟩
  | .hbm, ⟨11, _⟩ => ⟨S8192x1024, .bf16⟩
  | .hbm, ⟨12, _⟩ => ⟨S8192x1024, .bf16⟩
  | .hbm, ⟨13, _⟩ => ⟨S32x1x6x256x128, .f32⟩
  | .hbm, ⟨14, _⟩ => ⟨S32x1x6x256x128, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1024, .f32⟩
  | .local _ .vmem, ⟨4, _⟩ => ⟨S1024x4608, .f32⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x256, .bf16⟩
  | .local _ .vmem, ⟨12, _⟩ => ⟨S512x256, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S2x1x6x256x128, .f32⟩
  | .local _ .vmem, ⟨18, _⟩ => ⟨S2x1x6x256x128, .f32⟩
  | .local _ .vmem, ⟨19, _⟩ => ⟨S2x1x6x256x128, .f32⟩
  | .local _ .vmem, ⟨20, _⟩ => ⟨S2x1x6x256x128, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x6x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1x6x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InprojRefIdeal.lean ====
abbrev S32x256x1024 : Shape := ⟨3, ![32, 256, 1024]⟩
abbrev S8x6144 : Shape := ⟨2, ![8, 6144]⟩
abbrev S1x1024 : Shape := ⟨2, ![1, 1024]⟩
abbrev S1x1024x4608 : Shape := ⟨3, ![1, 1024, 4608]⟩
abbrev S1x6144 : Shape := ⟨2, ![1, 6144]⟩
abbrev S6144 : Shape := ⟨1, ![6144]⟩
abbrev S1x6x1024 : Shape := ⟨3, ![1, 6, 1024]⟩
abbrev S1x1x1024 : Shape := ⟨3, ![1, 1, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1024x4608 : Shape := ⟨2, ![1024, 4608]⟩
abbrev S32x256x4608 : Shape := ⟨3, ![32, 256, 4608]⟩
abbrev S32x256x768 : Shape := ⟨3, ![32, 256, 768]⟩
abbrev S32x256x256 : Shape := ⟨3, ![32, 256, 256]⟩
abbrev S32x256x6x2x64 : Shape := ⟨5, ![32, 256, 6, 2, 64]⟩
abbrev S32x6x2x256x64 : Shape := ⟨5, ![32, 6, 2, 256, 64]⟩
abbrev S32x6x256x2x64 : Shape := ⟨5, ![32, 6, 256, 2, 64]⟩
abbrev S32x6x256x128 : Shape := ⟨4, ![32, 6, 256, 128]⟩
abbrev S32x256x6x128 : Shape := ⟨4, ![32, 256, 6, 128]⟩
abbrev S8192x768 : Shape := ⟨2, ![8192, 768]⟩
abbrev S8192x256 : Shape := ⟨2, ![8192, 256]⟩
abbrev S8192x1024 : Shape := ⟨2, ![8192, 1024]⟩
abbrev S32x1x6x256x128 : Shape := ⟨5, ![32, 1, 6, 256, 128]⟩

abbrev nBuf : Space → Nat
  | .hbm => 68
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x6144, .f32⟩
  | .hbm, ⟨2, _⟩ => ⟨S1x1024, .f32⟩
  | .hbm, ⟨3, _⟩ => ⟨S1x1024x4608, .f32⟩
  | .hbm, ⟨4, _⟩ => ⟨S1x6144, .f32⟩
  | .hbm, ⟨5, _⟩ => ⟨S6144, .f32⟩
  | .hbm, ⟨6, _⟩ => ⟨S1x6x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1024, .f32⟩
  | .hbm, ⟨11, _⟩ => ⟨S1024, .f32⟩
  | .hbm, ⟨12, _⟩ => ⟨S32x256x1024, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x1024, .f32⟩
  | .hbm, ⟨24, _⟩ => ⟨S32x256x1024, .f32⟩
  | .hbm, ⟨25, _⟩ => ⟨S1x1x1024, .f32⟩
  | .hbm, ⟨26, _⟩ => ⟨S32x256x1024, .f32⟩
  | .hbm, ⟨27, _⟩ => ⟨S32x256x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S1024x4608, .f32⟩
  | .hbm, ⟨38, _⟩ => ⟨S32x256x4608, .f32⟩
  | .hbm, ⟨39, _⟩ => ⟨S32x256x768, .f32⟩
  | .hbm, ⟨40, _⟩ => ⟨S32x256x768, .f32⟩
  | .hbm, ⟨41, _⟩ => ⟨S32x256x768, .f32⟩
  | .hbm, ⟨42, _⟩ => ⟨S32x256x256, .f32⟩
  | .hbm, ⟨43, _⟩ => ⟨S32x256x1024, .f32⟩
  | .hbm, ⟨44, _⟩ => ⟨S32x256x1024, .f32⟩
  | .hbm, ⟨45, _⟩ => ⟨S32x256x6x2x64, .f32⟩
  | .hbm, ⟨46, _⟩ => ⟨S32x6x2x256x64, .f32⟩
  | .hbm, ⟨47, _⟩ => ⟨S32x6x256x2x64, .f32⟩
  | .hbm, ⟨48, _⟩ => ⟨S32x6x256x128, .f32⟩
  | .hbm, ⟨49, _⟩ => ⟨S32x256x6x128, .f32⟩
  | .hbm, ⟨50, _⟩ => ⟨S32x6x256x128, .f32⟩
  | .hbm, ⟨51, _⟩ => ⟨S_, .f32⟩
  | .hbm, ⟨52, _⟩ => ⟨S32x256x768, .f32⟩
  | .hbm, ⟨53, _⟩ => ⟨S32x256x768, .f32⟩
  | .hbm, ⟨54, _⟩ => ⟨S8192x768, .f32⟩
  | .hbm, ⟨55, _⟩ => ⟨S8192x768, .bf16⟩
  | .hbm, ⟨56, _⟩ => ⟨S8192x768, .f32⟩
  | .hbm, ⟨57, _⟩ => ⟨S8192x768, .bf16⟩
  | .hbm, ⟨58, _⟩ => ⟨S8192x768, .f32⟩
  | .hbm, ⟨59, _⟩ => ⟨S8192x768, .bf16⟩
  | .hbm, ⟨60, _⟩ => ⟨S8192x256, .f32⟩
  | .hbm, ⟨61, _⟩ => ⟨S8192x256, .bf16⟩
  | .hbm, ⟨62, _⟩ => ⟨S8192x1024, .f32⟩
  | .hbm, ⟨63, _⟩ => ⟨S8192x1024, .bf16⟩
  | .hbm, ⟨64, _⟩ => ⟨S8192x1024, .f32⟩
  | .hbm, ⟨65, _⟩ => ⟨S8192x1024, .bf16⟩
  | .hbm, ⟨66, _⟩ => ⟨S32x1x6x256x128, .f32⟩
  | .hbm, ⟨67, _⟩ => ⟨S32x1x6x256x128, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩

abbrev nD : Nat := 1
abbrev τ : Topo := Topo.v7x

variable {F : FTy → Type} [FloatOps F]
-- ==== Mix.lean ====
abbrev S8192x768 : Shape := ⟨2, ![8192, 768]⟩
abbrev S8192x256 : Shape := ⟨2, ![8192, 256]⟩
abbrev S8192x1024 : Shape := ⟨2, ![8192, 1024]⟩
abbrev S8x6144 : Shape := ⟨2, ![8, 6144]⟩
abbrev S1x1024 : Shape := ⟨2, ![1, 1024]⟩
abbrev S1x768x1024 : Shape := ⟨3, ![1, 768, 1024]⟩
abbrev S1x256x1024 : Shape := ⟨3, ![1, 256, 1024]⟩
abbrev S1x1024x1024 : Shape := ⟨3, ![1, 1024, 1024]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S8x1x6144 : Shape := ⟨3, ![8, 1, 6144]⟩
abbrev S768x1024 : Shape := ⟨2, ![768, 1024]⟩
abbrev S256x1024 : Shape := ⟨2, ![256, 1024]⟩
abbrev S1024x1024 : Shape := ⟨2, ![1024, 1024]⟩
abbrev S65536x128 : Shape := ⟨2, ![65536, 128]⟩
abbrev S8192x128 : Shape := ⟨2, ![8192, 128]⟩
abbrev S512x768 : Shape := ⟨2, ![512, 768]⟩
abbrev S512x256 : Shape := ⟨2, ![512, 256]⟩
abbrev S512x1024 : Shape := ⟨2, ![512, 1024]⟩
abbrev S1x1x6144 : Shape := ⟨3, ![1, 1, 6144]⟩
abbrev S4096x128 : Shape := ⟨2, ![4096, 128]⟩
abbrev S512x128 : Shape := ⟨2, ![512, 128]⟩
abbrev S1x6144 : Shape := ⟨2, ![1, 6144]⟩
abbrev S512 : Shape := ⟨1, ![512]⟩
abbrev S512x1 : Shape := ⟨2, ![512, 1]⟩

abbrev nBuf : Space → Nat
  | .hbm => 28
  | .vmem => 23
  | .smem => 0
  | _ => 0

abbrev bufTy : (tb : Table) → Fin (tcTables nBuf tb) → BufTy
  | .hbm, ⟨0, _⟩ => ⟨S8192x768, .f32⟩
  | .hbm, ⟨1, _⟩ => ⟨S8192x256, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8x6144, .f32⟩
  | .hbm, ⟨6, _⟩ => ⟨S1x1024, .f32⟩
  | .hbm, ⟨7, _⟩ => ⟨S1x1024, .f32⟩
  | .hbm, ⟨8, _⟩ => ⟨S1x768x1024, .f32⟩
  | .hbm, ⟨9, _⟩ => ⟨S1x256x1024, .f32⟩
  | .hbm, ⟨10, _⟩ => ⟨S1x1024x1024, .f32⟩
  | .hbm, ⟨11, _⟩ => ⟨S1x1024x16, .f32⟩
  | .hbm, ⟨12, _⟩ => ⟨S1024x16, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S8x1x6144, .f32⟩
  | .hbm, ⟨18, _⟩ => ⟨S8192x768, .bf16⟩
  | .hbm, ⟨19, _⟩ => ⟨S8192x256, .bf16⟩
  | .hbm, ⟨20, _⟩ => ⟨S8192x1024, .bf16⟩
  | .hbm, ⟨21, _⟩ => ⟨S8192x1024, .bf16⟩
  | .hbm, ⟨22, _⟩ => ⟨S768x1024, .f32⟩
  | .hbm, ⟨23, _⟩ => ⟨S256x1024, .f32⟩
  | .hbm, ⟨24, _⟩ => ⟨S1024x1024, .f32⟩
  | .hbm, ⟨25, _⟩ => ⟨S8192x1024, .f32⟩
  | .hbm, ⟨26, _⟩ => ⟨S65536x128, .f32⟩
  | .hbm, ⟨27, _⟩ => ⟨S8192x128, .f32⟩
  | .local _ .vmem, ⟨0, _⟩ => ⟨S512x768, .bf16⟩
  | .local _ .vmem, ⟨1, _⟩ => ⟨S512x768, .bf16⟩
  | .local _ .vmem, ⟨2, _⟩ => ⟨S512x256, .bf16⟩
  | .local _ .vmem, ⟨3, _⟩ => ⟨S512x256, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1x6144, .f32⟩
  | .local _ .vmem, ⟨11, _⟩ => ⟨S1x1024, .f32⟩
  | .local _ .vmem, ⟨12, _⟩ => ⟨S1x1024, .f32⟩
  | .local _ .vmem, ⟨13, _⟩ => ⟨S768x1024, .f32⟩
  | .local _ .vmem, ⟨14, _⟩ => ⟨S256x1024, .f32⟩
  | .local _ .vmem, ⟨15, _⟩ => ⟨S1024x1024, .f32⟩
  | .local _ .vmem, ⟨16, _⟩ => ⟨S1024x128, .bf16⟩
  | .local _ .vmem, ⟨17, _⟩ => ⟨S512x1024, .f32⟩
  | .local _ .vmem, ⟨18, _⟩ => ⟨S512x1024, .f32⟩
  | .local _ .vmem, ⟨19, _⟩ => ⟨S4096x128, .f32⟩
  | .local _ .vmem, ⟨20, _⟩ => ⟨S4096x128, .f32⟩
  | .local _ .vmem, ⟨21, _⟩ => ⟨S512x128, .f32⟩
  | .local _ .vmem, ⟨22, _⟩ => ⟨S512x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixIdeal.lean ====
variable {F : FTy → Type} [FloatOps F] [Named F]
def κ : String → Option EReal := fun
  | "mask" => some ⊥
  | _ => none
-- ==== MixRefIdeal.lean ====
abbrev S8192x768 : Shape := ⟨2, ![8192, 768]⟩
abbrev S8192x256 : Shape := ⟨2, ![8192, 256]⟩
abbrev S8192x1024 : Shape := ⟨2, ![8192, 1024]⟩
abbrev S8x6144 : Shape := ⟨2, ![8, 6144]⟩
abbrev S1x1024 : Shape := ⟨2, ![1, 1024]⟩
abbrev S1x768x1024 : Shape := ⟨3, ![1, 768, 1024]⟩
abbrev S1x256x1024 : Shape := ⟨3, ![1, 256, 1024]⟩
abbrev S1x1024x1024 : Shape := ⟨3, ![1, 1024, 1024]⟩
abbrev S1x1024x16 : Shape := ⟨3, ![1, 1024, 16]⟩
abbrev S1x6144 : Shape := ⟨2, ![1, 6144]⟩
abbrev S6144 : Shape := ⟨1, ![6144]⟩
abbrev S1x6x1024 : Shape := ⟨3, ![1, 6, 1024]⟩
abbrev S1x1x1024 : Shape := ⟨3, ![1, 1, 1024]⟩
abbrev S_ : Shape := ⟨0, ![]⟩
abbrev S768x1024 : Shape := ⟨2, ![768, 1024]⟩
abbrev S256x1024 : Shape := ⟨2, ![256, 1024]⟩
abbrev S1024x1024 : Shape := ⟨2, ![1024, 1024]⟩
abbrev S1024 : Shape := ⟨1, ![1024]⟩
abbrev S8192 : Shape := ⟨1, ![8192]⟩
abbrev S8192x1 : Shape := ⟨2, ![8192, 1]⟩
abbrev S1024x16 : Shape := ⟨2, ![1024, 16]⟩
abbrev S8192x16 : Shape := ⟨2, ![8192, 16]⟩
abbrev S8192x128 : Shape := ⟨2, ![8192, 128]⟩
abbrev S65536x128 : Shape := ⟨2, ![65536, 128]⟩

abbrev nBuf : Space → Nat
  | .hbm => 110
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x256, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8x6144, .f32⟩
  | .hbm, ⟨6, _⟩ => ⟨S1x1024, .f32⟩
  | .hbm, ⟨7, _⟩ => ⟨S1x1024, .f32⟩
  | .hbm, ⟨8, _⟩ => ⟨S1x768x1024, .f32⟩
  | .hbm, ⟨9, _⟩ => ⟨S1x256x1024, .f32⟩
  | .hbm, ⟨10, _⟩ => ⟨S1x1024x1024, .f32⟩
  | .hbm, ⟨11, _⟩ => ⟨S1x1024x16, .f32⟩
  | .hbm, ⟨12, _⟩ => ⟨S1x6144, .f32⟩
  | .hbm, ⟨13, _⟩ => ⟨S6144, .f32⟩
  | .hbm, ⟨14, _⟩ => ⟨S1x6x1024, .f32⟩
  | .hbm, ⟨15, _⟩ => ⟨S1x1x1024, .f32⟩
  | .hbm, ⟨16, _⟩ => ⟨S1x1024, .f32⟩
  | .hbm, ⟨17, _⟩ => ⟨S1x1x1024, .f32⟩
  | .hbm, ⟨18, _⟩ => ⟨S1x1024, .f32⟩
  | .hbm, ⟨19, _⟩ => ⟨S1x1x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S768x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S256x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S1024x16, .f32⟩
  | .hbm, ⟨91, _⟩ => ⟨S8192x16, .f32⟩
  | .hbm, ⟨92, _⟩ => ⟨S_, .f32⟩
  | .hbm, ⟨93, _⟩ => ⟨S_, .f32⟩
  | .hbm, ⟨94, _⟩ => ⟨S8192x128, .f32⟩
  | .hbm, ⟨95, _⟩ => ⟨S65536x128, .f32⟩
  | .hbm, ⟨96, _⟩ => ⟨S_, .f32⟩
  | .hbm, ⟨97, _⟩ => ⟨S8192, .f32⟩
  | .hbm, ⟨98, _⟩ => ⟨S_, .f32⟩
  | .hbm, ⟨99, _⟩ => ⟨S8192, .f32⟩
  | .hbm, ⟨100, _⟩ => ⟨S8192, .f32⟩
  | .hbm, ⟨101, _⟩ => ⟨S8192x1, .f32⟩
  | .hbm, ⟨102, _⟩ => ⟨S8192x128, .f32⟩
  | .hbm, ⟨103, _⟩ => ⟨S8192x128, .f32⟩
  | .hbm, ⟨104, _⟩ => ⟨S8192x128, .f32⟩
  | .hbm, ⟨105, _⟩ => ⟨S_, .f32⟩
  | .hbm, ⟨106, _⟩ => ⟨S8192, .f32⟩
  | .hbm, ⟨107, _⟩ => ⟨S8192x1, .f32⟩
  | .hbm, ⟨108, _⟩ => ⟨S8192x128, .f32⟩
  | .hbm, ⟨109, _⟩ => ⟨S8192x128, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_10 : Ref sig .tc := ⟨.hbm, 92, rfl⟩
abbrev main_call0_v0 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== Proof.AttnMath.lean ====
/- Facts about extended reals that the attention claim uses: sums of products of finite values, the maximum and the sum over
   a row cut in two, and the softmax quotient with the normaliser taken as a reciprocal. Nothing here names a program. -/
module

public import Idealize.ShloMosaic.Lib.Pointwise
public import Idealize.ShloMosaic.Lib.IdealHost

@[expose] public section

noncomputable section

namespace Cert.AttnMath

open Idealize Idealize.ShloMosaic

/-- The largest value of a finite family, from minus infinity. -/
def mx {n : ℕ} (f : Fin n → EReal) : EReal := Finset.univ.fold max ⊥ f

theorem mx_eq_sup {n : ℕ} (f : Fin n → EReal) : mx f = Finset.univ.sup f := rfl

/-- The maximum over a family cut in two parts. -/
theorem mx_add (a b : ℕ) (f : Fin (a + b) → EReal) :
    mx f = max (mx fun i => f (Fin.castAdd b i)) (mx fun i => f (Fin.natAdd a i)) := by
  simp only [mx_eq_sup]
  apply le_antisymm
  · refine Finset.sup_le fun i _ => ?_
    refine Fin.addCases (fun i => ?_) (fun i => ?_) i
    · exact le_max_of_le_left (Finset.le_sup (f := fun i => f (Fin.castAdd b i)) (Finset.mem_univ i))
    · exact le_max_of_le_right (Finset.le_sup (f := fun i => f (Fin.natAdd a i)) (Finset.mem_univ i))
  · exact max_le (Finset.sup_le fun i _ => Finset.le_sup (f := f) (Finset.mem_univ _))
      (Finset.sup_le fun i _ => Finset.le_sup (f := f) (Finset.mem_univ _))

/-- The maximum of a nonempty family is attained. -/
theorem mx_mem {n : ℕ} (hn : 0 < n) (f : Fin n → EReal) : ∃ i, f i = mx f := by
  haveI : Nonempty (Fin n) := ⟨⟨0, hn⟩⟩
  obtain ⟨i, _, hi⟩ := Finset.exists_mem_eq_sup Finset.univ Finset.univ_nonempty f
  exact ⟨i, hi.symm⟩

/-- The exponential is nowhere negative. -/
theorem exp_nonneg (x : EReal) : 0 ≤ Ideal.exp x := by
  induction x with
  | bot => exact le_refl _
  | top => exact le_top
  | coe r => exact EReal.coe_nonneg.mpr (Real.exp_pos r).le

/-- Finite scores: the softmax normaliser is not zero. -/
theorem sum_exp_ne_zero {n : ℕ} (hn : 0 < n) (s : Fin n → EReal) (h : ∀ i, ∃ r : ℝ, s i = r) :
    (∑ i, Ideal.exp (s i - mx s)) ≠ 0 := by
  obtain ⟨i, hi⟩ := mx_mem hn s
  obtain ⟨r, hr⟩ := h i
  have h1 : Ideal.exp (s i - mx s) = 1 := by
    rw [← hi, hr, ← EReal.coe_sub, sub_self, Ideal.exp_coe, Real.exp_zero, EReal.coe_one]
  have h2 : Ideal.exp (s i - mx s) ≤ ∑ i, Ideal.exp (s i - mx s) :=
    Finset.single_le_sum (f := fun i => Ideal.exp (s i - mx s)) (fun i _ => exp_nonneg _) (Finset.mem_univ i)
  rw [h1] at h2
  exact (lt_of_lt_of_le zero_lt_one h2).ne'

/-- A finite sum of products of finite values is finite. -/
theorem sum_mul_real {n : ℕ} (x y : Fin n → EReal) (hx : ∀ i, ∃ r : ℝ, x i = r) (hy : ∀ i, ∃ r : ℝ, y i = r) :
    ∃ r : ℝ, (∑ i, x i * y i) = r := by
  choose a ha using hx
  choose b hb using hy
  refine ⟨∑ i, a i * b i, ?_⟩
  simp only [ha, hb, ← EReal.coe_mul]
  exact (map_sum (⟨⟨Real.toEReal, EReal.coe_zero⟩, EReal.coe_add⟩ : ℝ →+ EReal) (fun i => a i * b i) Finset.univ).symm

/-- A finite factor leaves a sum of products of finite values. -/
theorem sum_mul_scale {n : ℕ} (c : ℝ) (x y : Fin n → EReal) (hx : ∀ i, ∃ r : ℝ, x i = r) (hy : ∀ i, ∃ r : ℝ, y i = r) :
    (∑ i, x i * (y i * (c : EReal))) = (∑ i, y i * x i) * (c : EReal) := by
  choose a ha using hx
  choose b hb using hy
  have hs : ∀ g : Fin n → ℝ, (∑ i, ((g i : ℝ) : EReal)) = ((∑ i, g i : ℝ) : EReal) := fun g =>
    (map_sum (⟨⟨Real.toEReal, EReal.coe_zero⟩, EReal.coe_add⟩ : ℝ →+ EReal) g Finset.univ).symm
  simp only [ha, hb, ← EReal.coe_mul, hs]
  rw [Finset.sum_mul]
  congr 1
  refine Finset.sum_congr rfl fun i _ => ?_
  ring

/-- A product with a mask of ones and zeros that keeps the first half of the lanes. -/
theorem sum_first (x y : Fin (64 + 64) → EReal) :
    (∑ k, x k * (if (k : ℕ) < 64 then 1 else 0) * y k) = ∑ d : Fin 64, x (Fin.castAdd 64 d) * y (Fin.castAdd 64 d) := by
  rw [Fin.sum_univ_add]
  simp

/-- The mask's complement keeps the second half. -/
theorem sum_second (x y : Fin (64 + 64) → EReal) :
    (∑ k, x k * (1 - if (k : ℕ) < 64 then 1 else 0) * y k) = ∑ d : Fin 64, x (Fin.natAdd 64 d) * y (Fin.natAdd 64 d) := by
  have h : (1 : EReal) - 1 = 0 := by
    rw [← EReal.coe_one, ← EReal.coe_sub, sub_self, EReal.coe_zero]
  rw [Fin.sum_univ_add]
  simp [h]

/-- The word of minus infinity. -/
theorem ofBits_neg_inf : Ideal.ofBits .f32 0xFF800000#32 = ⊥ := by simp [Ideal.ofBits, Ideal.ieee]

/-- The word of plus infinity. -/
theorem ofBits_pos_inf : Ideal.ofBits .f32 0x7F800000#32 = ⊤ := by simp [Ideal.ofBits, Ideal.ieee]

/-- The lane mask: one on the first 64 lanes, zero on the rest. -/
theorem first_lanes (d : Fin 128) (x y : EReal) :
    Scalar.select (IntOp.cmpi CmpIPredicate.slt (BitVec.ofNat 32 d) 64#32) x y = if (d : ℕ) < 64 then x else y := by
  have h : ∀ d : Fin 128, IntOp.cmpi CmpIPredicate.slt (BitVec.ofNat 32 d) 64#32 = if (d : ℕ) < 64 then 1#1 else 0#1 := by decide +kernel
  rw [h d]
  split_ifs <;> rfl

/-- The cached entries followed by the sequence's own. -/
def cat {α : Type} (a : Fin 256 → α) (b : Fin 1024 → α) (j : Fin 1280) : α :=
  if h : (j : ℕ) < 256 then a ⟨j, h⟩ else b ⟨j - 256, by omega⟩

theorem cat_l {α : Type} (a : Fin 256 → α) (b : Fin 1024 → α) (i : Fin 256) : cat a b (Fin.castAdd 1024 i) = a i := by
  have h : ((Fin.castAdd 1024 i : Fin 1280) : ℕ) < 256 := i.isLt
  rw [cat, dif_pos h]; rfl

theorem cat_r {α : Type} (a : Fin 256 → α) (b : Fin 1024 → α) (i : Fin 1024) : cat a b (Fin.natAdd 256 i) = b i := by
  have h : ¬ ((Fin.natAdd 256 i : Fin 1280) : ℕ) < 256 := by simp
  rw [cat, dif_neg h]
  congr 1
  ext
  simp

theorem sum_cat (f : Fin 1280 → EReal) : (∑ j, f j) = (∑ i : Fin 256, f (Fin.castAdd 1024 i)) + ∑ i : Fin 1024, f (Fin.natAdd 256 i) :=
  Fin.sum_univ_add (a := 256) (b := 1024) f

theorem mx_cat (a : Fin 256 → EReal) (b : Fin 1024 → EReal) : mx (cat a b) = max (mx a) (mx b) := by
  rw [mx_add 256 1024 (cat a b)]
  simp only [cat_l, cat_r]

/-- The softmax of a row of scores. -/
def soft (s : Fin 1280 → EReal) (j : Fin 1280) : EReal :=
  Ideal.div (Ideal.exp (s j - mx s)) (∑ i, Ideal.exp (s i - mx s))

/-- The differential attention output at one lane: weights of the first map less `lam` times those of the second. -/
def att (s0 s1 : Fin 1280 → EReal) (V : Fin 1280 → EReal) (lam : EReal) : EReal :=
  ∑ j, (soft s0 j - lam * soft s1 j) * V j

/-- The normaliser's reciprocal, from the two parts of a row. -/
def rec (a : Fin 256 → EReal) (b : Fin 1024 → EReal) : EReal :=
  Ideal.div 1 ((∑ i, Ideal.exp (a i - max (mx a) (mx b))) + ∑ i, Ideal.exp (b i - max (mx a) (mx b)))

theorem soft_cat (a : Fin 256 → EReal) (b : Fin 1024 → EReal) (h : ∀ j, ∃ r : ℝ, cat a b j = r) (j : Fin 1280) :
    soft (cat a b) j = Ideal.exp (cat a b j - max (mx a) (mx b)) * rec a b := by
  have h0 := sum_exp_ne_zero (by norm_num) (cat a b) h
  rw [soft, ← Ideal.mul_one_div h0, rec, sum_cat]
  simp only [cat_l, cat_r, mx_cat]

/-- The kernel's form: the two parts of the row apart, the normaliser's reciprocal multiplied in, `lam` folded into it. -/
theorem att_cat (a0 a1 : Fin 256 → EReal) (b0 b1 : Fin 1024 → EReal) (va : Fin 256 → EReal) (vb : Fin 1024 → EReal) (lam : EReal)
    (h0 : ∀ j, ∃ r : ℝ, cat a0 b0 j = r) (h1 : ∀ j, ∃ r : ℝ, cat a1 b1 j = r) :
    att (cat a0 b0) (cat a1 b1) (cat va vb) lam =
      (∑ i, va i * (Ideal.exp (a0 i - max (mx a0) (mx b0)) * rec a0 b0 - Ideal.exp (a1 i - max (mx a1) (mx b1)) * (lam * rec a1 b1)))
      + ∑ i, vb i * (Ideal.exp (b0 i - max (mx a0) (mx b0)) * rec a0 b0 - Ideal.exp (b1 i - max (mx a1) (mx b1)) * (lam * rec a1 b1)) := by
  rw [att, sum_cat]
  simp only [soft_cat _ _ h0, soft_cat _ _ h1, cat_l, cat_r]
  refine congrArg₂ (· + ·) (Finset.sum_congr rfl fun i _ => ?_) (Finset.sum_congr rfl fun i _ => ?_) <;>
    rw [mul_comm, mul_left_comm lam]

/-- The output lane after its root-mean-square normalisation over the head's 128 lanes, gain and constant factor. -/
def out (o : Fin 128 → EReal) (g : Fin 128 → EReal) (d : Fin 128) : EReal :=
  o d * Ideal.rsqrt (Ideal.div (∑ e, o e * o e) (Ideal.ofBits .f32 0x43000000#32) + Ideal.ofBits .f32 0x3727C5AC#32) * g d
    * Ideal.ofBits .f32 0x3F4CCCCD#32

/-- Half `c` of a head's lanes. -/
def lane (c : Fin 2) (d : Fin 64) : Fin 128 := ⟨64 * c + d, by omega⟩

/-- A raw score: the product of a key row and a query row over half `c` of the head's lanes. -/
def dot (c : Fin 2) (x y : Fin 128 → EReal) : EReal := ∑ d : Fin 64, x (lane c d) * y (lane c d)

theorem dot_first (x y : Fin 128 → EReal) : (∑ k : Fin 128, x k * (if (k : ℕ) < 64 then 1 else 0) * y k) = dot 0 x y := by
  rw [sum_first x y, dot]
  refine Finset.sum_congr rfl fun d _ => ?_
  have h : Fin.castAdd 64 d = lane 0 d := by ext; simp [lane]
  rw [h]

theorem dot_second (x y : Fin 128 → EReal) : (∑ k : Fin 128, x k * (1 - if (k : ℕ) < 64 then 1 else 0) * y k) = dot 1 x y := by
  rw [sum_second x y, dot]
  refine Finset.sum_congr rfl fun d _ => ?_
  have h : Fin.natAdd 64 d = lane 1 d := by ext; simp [lane, add_comm]
  rw [h]

end Cert.AttnMath

end
-- ==== Proof.AttnHead.lean ====
/- One head of the latent attention kernel as one function of its loads, and its value at an index. -/
module

public import proofs.«01_k».proof.Proof.Gen.AttnIdeal.Frame
public import proofs.«01_k».proof.Proof.AttnMath
public import Idealize.ShloMosaic.Lib.Pointwise
public import Idealize.ShloMosaic.Lib.Pipeline.ValueKit

@[expose] public section

set_option maxRecDepth 16384

noncomputable section

namespace Cert.AttnIdeal.Head

open Idealize Idealize.ShloMosaic Cert.AttnIdeal Cert.AttnIdeal.Gen Cert.AttnMath

section
variable {F : FTy → Type} [FloatOps F]

/-- What the kernel stores for one head, from that head's loads. -/
def head (l : Vec F S1x1 .f32) (g : Vec F S128x1 .f32) (q : Vec F S256x128 .bf16) (ck : Vec F S1x1x1x256x128 .f32)
    (k : Vec F S1024x128 .bf16) (cv : Vec F S1x1x1x256x128 .f32) (v : Vec F S1024x128 .bf16) : FVec F S256x128 .bf16 :=
  k0_pay26 (k0_pay3 g) (k0_pay23 (k0_pay2 l) (k0_pay4 q) (k0_pay7 ck) (k0_pay10 k) (k0_pay11 q ck) (k0_pay12 q k))
    (k0_pay24 (k0_pay11 q ck) (k0_pay12 q k)) (k0_pay25 (k0_pay2 l) (k0_pay4 q) (k0_pay7 ck) (k0_pay10 k)) cv v

set_option maxHeartbeats 4000000 in
/-- The kernel's six stores are the six heads. -/
theorem out_eq (x0 : Vec F S256x768 .bf16) (x1 : Vec F S1024x768 .bf16) (x2 : Vec F S1024x768 .bf16) (x3 : Vec F S1x1x6x256x128 .f32)
    (x4 : Vec F S1x1x6x256x128 .f32) (x5 : Vec F S8x128 .f32) (x6 : Vec F S128x1 .f32) :
    out0_7 x0 x1 x2 x3 x4 x5 x6 = View.canon [
      ⟨r0_17, head (View.ld x5 r0_0) (View.ld x6 r0_1) (View.ld x0 r0_17) (View.ld x3 r0_18) (View.ld x1 r0_19) (View.ld x4 r0_18) (View.ld x2 r0_19)⟩,
      ⟨r0_14, head (View.ld x5 r0_0) (View.ld x6 r0_1) (View.ld x0 r0_14) (View.ld x3 r0_15) (View.ld x1 r0_16) (View.ld x4 r0_15) (View.ld x2 r0_16)⟩,
      ⟨r0_11, head (View.ld x5 r0_0) (View.ld x6 r0_1) (View.ld x0 r0_11) (View.ld x3 r0_12) (View.ld x1 r0_13) (View.ld x4 r0_12) (View.ld x2 r0_13)⟩,
      ⟨r0_8, head (View.ld x5 r0_0) (View.ld x6 r0_1) (View.ld x0 r0_8) (View.ld x3 r0_9) (View.ld x1 r0_10) (View.ld x4 r0_9) (View.ld x2 r0_10)⟩,
      ⟨r0_5, head (View.ld x5 r0_0) (View.ld x6 r0_1) (View.ld x0 r0_5) (View.ld x3 r0_6) (View.ld x1 r0_7) (View.ld x4 r0_6) (View.ld x2 r0_7)⟩,
      ⟨r0_2, head (View.ld x5 r0_0) (View.ld x6 r0_1) (View.ld x0 r0_2) (View.ld x3 r0_3) (View.ld x1 r0_4) (View.ld x4 r0_3) (View.ld x2 r0_4)⟩] := rfl

end

theorem one_sub_one : (1 : EReal) - 1 = 0 := by
  rw [← EReal.coe_one, ← EReal.coe_sub, sub_self, EReal.coe_zero]

theorem mask_at (j : Fin 256) (d : Fin 128) : k0_pay6 (F := Ideal) (ix2 j d) = if (d : ℕ) < 64 then 1 else 0 := by
  pointwise [k0_pay6]
  exact first_lanes d 1 0

theorem mask'_at (j : Fin 1024) (d : Fin 128) : k0_pay9 (F := Ideal) (ix2 j d) = if (d : ℕ) < 64 then 1 else 0 := by
  pointwise [k0_pay9]
  exact first_lanes d 1 0

/-- The scores of the first map against the cached keys. -/
theorem pay11_at (q : Vec Ideal S256x128 .bf16) (ck : Vec Ideal S1x1x1x256x128 .f32) (j r : Fin 256) :
    k0_pay11 q ck (ix2 j r) = dot 0 (fun d => ck (ix5 0 0 0 j d)) (fun d => q (ix2 r d)) := by
  pointwise [k0_pay11, k0_pay5, mask_at, k0_pay4]
  simp [dot, lane]

/-- The scores of the first map against the own keys. -/
theorem pay12_at (q : Vec Ideal S256x128 .bf16) (k : Vec Ideal S1024x128 .bf16) (j : Fin 1024) (r : Fin 256) :
    k0_pay12 q k (ix2 j r) = dot 0 (fun d => k (ix2 j d)) (fun d => q (ix2 r d)) := by
  pointwise [k0_pay12, k0_pay8, mask'_at, k0_pay4]
  simp [dot, lane]

/-- The scores of the second map against the cached keys. -/
theorem pay17_at (q : Vec Ideal S256x128 .bf16) (ck : Vec Ideal S1x1x1x256x128 .f32) (j r : Fin 256) :
    k0_pay17 (k0_pay4 q) (k0_pay7 ck) (ix2 j r) = dot 1 (fun d => ck (ix5 0 0 0 j d)) (fun d => q (ix2 r d)) := by
  pointwise [k0_pay17, k0_pay7, k0_pay5, mask_at, k0_pay4]
  simp [dot, lane, one_sub_one]

/-- The scores of the second map against the own keys. -/
theorem pay18_at (q : Vec Ideal S256x128 .bf16) (k : Vec Ideal S1024x128 .bf16) (j : Fin 1024) (r : Fin 256) :
    k0_pay18 (k0_pay4 q) (k0_pay10 k) (ix2 j r) = dot 1 (fun d => k (ix2 j d)) (fun d => q (ix2 r d)) := by
  pointwise [k0_pay18, k0_pay10, k0_pay8, mask'_at, k0_pay4]
  simp [dot, lane, one_sub_one]

section
variable (v33 : FVec Ideal S256x256 .f32) (v34 : FVec Ideal S1024x256 .f32)

theorem pay14_at (j r : Fin 256) :
    k0_pay14 v33 v34 (ix2 j r) = Ideal.exp (v33 (ix2 j r) - max (mx fun i => v33 (ix2 i r)) (mx fun i => v34 (ix2 i r))) := by
  pointwise [k0_pay14, k0_pay13]
  rw [ofBits_neg_inf]; rfl

theorem pay15_at (j : Fin 1024) (r : Fin 256) :
    k0_pay15 v33 v34 (ix2 j r) = Ideal.exp (v34 (ix2 j r) - max (mx fun i => v33 (ix2 i r)) (mx fun i => v34 (ix2 i r))) := by
  pointwise [k0_pay15, k0_pay13]
  rw [ofBits_neg_inf]; rfl

theorem pay16_at (r : Fin 256) :
    k0_pay16 v33 v34 (ix2 0 r) = rec (fun i => v33 (ix2 i r)) (fun i => v34 (ix2 i r)) := by
  pointwise [k0_pay16]
  simp only [pay14_at, pay15_at]; rfl

end

/-- The second map's operations are the first's. -/
theorem second_map (l : FVec Ideal S1x1 .f32) (v5 v19 : FVec Ideal S256x128 .bf16) (v32 : FVec Ideal S1024x128 .bf16) :
    k0_pay20 v5 v19 v32 = k0_pay14 (k0_pay17 v5 v19) (k0_pay18 v5 v32) ∧ k0_pay21 v5 v19 v32 = k0_pay15 (k0_pay17 v5 v19) (k0_pay18 v5 v32)
    ∧ ∀ r : Fin 256, k0_pay22 l v5 v19 v32 (ix2 0 r) = l (ix2 0 0) * k0_pay16 (k0_pay17 v5 v19) (k0_pay18 v5 v32) (ix2 0 r) := by
  refine ⟨rfl, rfl, fun r => ?_⟩
  pointwise [k0_pay22, k0_pay16]
  rfl

section
variable (l : Vec Ideal S1x1 .f32) (g : Vec Ideal S128x1 .f32) (q : Vec Ideal S256x128 .bf16) (ck : Vec Ideal S1x1x1x256x128 .f32)
    (k : Vec Ideal S1024x128 .bf16) (cv : Vec Ideal S1x1x1x256x128 .f32) (v : Vec Ideal S1024x128 .bf16)

/-- The weights against the cached values. -/
theorem weight_c (j r : Fin 256) :
    k0_pay23 (k0_pay2 l) (k0_pay4 q) (k0_pay7 ck) (k0_pay10 k) (k0_pay11 q ck) (k0_pay12 q k) (ix2 j r) =
      Ideal.exp (dot 0 (fun d => ck (ix5 0 0 0 j d)) (fun d => q (ix2 r d)) - max (mx fun i => dot 0 (fun d => ck (ix5 0 0 0 i d)) (fun d => q (ix2 r d))) (mx fun i => dot 0 (fun d => k (ix2 i d)) (fun d => q (ix2 r d))))
        * rec (fun i => dot 0 (fun d => ck (ix5 0 0 0 i d)) (fun d => q (ix2 r d))) (fun i => dot 0 (fun d => k (ix2 i d)) (fun d => q (ix2 r d)))
      - Ideal.exp (dot 1 (fun d => ck (ix5 0 0 0 j d)) (fun d => q (ix2 r d)) - max (mx fun i => dot 1 (fun d => ck (ix5 0 0 0 i d)) (fun d => q (ix2 r d))) (mx fun i => dot 1 (fun d => k (ix2 i d)) (fun d => q (ix2 r d))))
        * (l (ix2 0 0) * rec (fun i => dot 1 (fun d => ck (ix5 0 0 0 i d)) (fun d => q (ix2 r d))) (fun i => dot 1 (fun d => k (ix2 i d)) (fun d => q (ix2 r d)))) := by
  obtain ⟨h1, _, h3⟩ := second_map (k0_pay2 l) (k0_pay4 q) (k0_pay7 ck) (k0_pay10 k)
  have hl : k0_pay2 l (ix2 0 0) = l (ix2 0 0) := by pointwise [k0_pay2]
  pointwise [k0_pay23]
  simp only [h1, h3, pay14_at, pay16_at, pay11_at, pay12_at, pay17_at, pay18_at, hl]

/-- The weights against the own values. -/
theorem weight_o (j : Fin 1024) (r : Fin 256) :
    k0_pay24 (k0_pay11 q ck) (k0_pay12 q k) (ix2 j r) - k0_pay25 (k0_pay2 l) (k0_pay4 q) (k0_pay7 ck) (k0_pay10 k) (ix2 j r) =
      Ideal.exp (dot 0 (fun d => k (ix2 j d)) (fun d => q (ix2 r d)) - max (mx fun i => dot 0 (fun d => ck (ix5 0 0 0 i d)) (fun d => q (ix2 r d))) (mx fun i => dot 0 (fun d => k (ix2 i d)) (fun d => q (ix2 r d))))
        * rec (fun i => dot 0 (fun d => ck (ix5 0 0 0 i d)) (fun d => q (ix2 r d))) (fun i => dot 0 (fun d => k (ix2 i d)) (fun d => q (ix2 r d)))
      - Ideal.exp (dot 1 (fun d => k (ix2 j d)) (fun d => q (ix2 r d)) - max (mx fun i => dot 1 (fun d => ck (ix5 0 0 0 i d)) (fun d => q (ix2 r d))) (mx fun i => dot 1 (fun d => k (ix2 i d)) (fun d => q (ix2 r d))))
        * (l (ix2 0 0) * rec (fun i => dot 1 (fun d => ck (ix5 0 0 0 i d)) (fun d => q (ix2 r d))) (fun i => dot 1 (fun d => k (ix2 i d)) (fun d => q (ix2 r d)))) := by
  obtain ⟨_, h2, h3⟩ := second_map (k0_pay2 l) (k0_pay4 q) (k0_pay7 ck) (k0_pay10 k)
  have hl : k0_pay2 l (ix2 0 0) = l (ix2 0 0) := by pointwise [k0_pay2]
  pointwise [k0_pay24, k0_pay25]
  simp only [h2, h3, pay15_at, pay16_at, pay11_at, pay12_at, pay17_at, pay18_at, hl]

/-- What the kernel stores for one head: the differential attention of its rows, normalised. -/
theorem head_at (r : Fin 256) (d : Fin 128)
    (h : ∀ c j, ∃ x : ℝ, cat (fun i => dot c (fun d => ck (ix5 0 0 0 i d)) (fun d => q (ix2 r d))) (fun i => dot c (fun d => k (ix2 i d)) (fun d => q (ix2 r d))) j = x) :
    head l g q ck k cv v (ix2 r d) =
      out (fun e => att (cat (fun i => dot 0 (fun d => ck (ix5 0 0 0 i d)) (fun d => q (ix2 r d))) (fun i => dot 0 (fun d => k (ix2 i d)) (fun d => q (ix2 r d))))
          (cat (fun i => dot 1 (fun d => ck (ix5 0 0 0 i d)) (fun d => q (ix2 r d))) (fun i => dot 1 (fun d => k (ix2 i d)) (fun d => q (ix2 r d))))
          (cat (fun i => cv (ix5 0 0 0 i e)) (fun i => v (ix2 i e))) (l (ix2 0 0)))
        (fun e => g (ix2 e 0)) d := by
  simp only [out, att_cat _ _ _ _ _ _ _ (h 0) (h 1)]
  pointwise [head, k0_pay26, k0_pay3]
  simp only [weight_c, weight_o]

end

end Cert.AttnIdeal.Head

end
-- ==== Proof.AttnRef.lean ====
/- The attention reference's operations in four stages (scores, softmax, values, normalisation), and each stage's value at an index. -/
module

public import proofs.«01_k».proof.Proof.Gen.AttnRefIdeal.Run
public import proofs.«01_k».proof.Proof.AttnMath
public import Idealize.ShloMosaic.Lib.Pointwise
public import Idealize.ShloMosaic.Lib.Pipeline.ValueKit

@[expose] public section

set_option maxRecDepth 16384

noncomputable section

namespace Cert.AttnRefIdeal.Stage

open Idealize Idealize.ShloMosaic Idealize.SL.Sem Cert.AttnRefIdeal Cert.AttnRefIdeal.Gen Cert.AttnRefIdeal.Facts Cert.AttnRefIdeal.Value Cert.AttnMath

section
variable {F : FTy → Type} [FloatOps F]

/-- The scaled scores. -/
def refS (x0 x1 : FVec F S2048x768 .f32) (x3 : FVec F S2x1x6x256x128 .f32) : FVec F S2x6x2x1024x1280 .f32 :=
  mulf (Host.dotGeneral dot_S2x6x2x1024x64_S2x6x2x1280x64_S2x6x2x1024x1280_4_4_3_3_012_012 none (transpose S2x6x2x1024x64 [0, 2, 3, 1, 4] (shapeCast _ x0 shapeCasts_S2048x768_S2x1024x6x2x64) transposes_S2x1024x6x2x64_S2x6x2x1024x64_0_2_3_1_4) (concatenate S2x6x2x1280x64 3 [⟨S2x6x2x256x64, (transpose S2x6x2x256x64 [0, 1, 3, 2, 4] (shapeCast _ (shapeCast _ x3 shapeCasts_S2x1x6x256x128_S2x6x256x128) shapeCasts_S2x6x256x128_S2x6x256x2x64) transposes_S2x6x256x2x64_S2x6x2x256x64_0_1_3_2_4)⟩, ⟨S2x6x2x1024x64, (transpose S2x6x2x1024x64 [0, 2, 3, 1, 4] (shapeCast _ x1 shapeCasts_S2048x768_S2x1024x6x2x64) transposes_S2x1024x6x2x64_S2x6x2x1024x64_0_2_3_1_4)⟩] concatenates_S2x6x2x256x64_S2x6x2x1024x64_S2x6x2x1280x64_d3)) (broadcastInDim S2x6x2x1024x1280 ![] bcast_S_S2x6x2x1024x1280 (constant S_ .f32 0x3E000000#32))

/-- Each row's maximum. -/
def refM (s : FVec F S2x6x2x1024x1280 .f32) : FVec F S2x6x2x1024 .f32 :=
  maximumf (broadcastInDim S2x6x2x1024 ![] bcast_S_S2x6x2x1024 (constant S_ .f32 0xFF800000#32)) (Host.reduce FloatOps.maximumf s (constant S_ .f32 0xFF800000#32) reducesTo_S2x6x2x1024x1280_S2x6x2x1024_d4 h_S_)

/-- The exponentials. -/
def refE (s : FVec F S2x6x2x1024x1280 .f32) : FVec F S2x6x2x1024x1280 .f32 :=
  Host.exp (subf s (broadcastInDim S2x6x2x1024x1280 ![0, 1, 2, 3, 4] bcast_S2x6x2x1024x1_S2x6x2x1024x1280_0_1_2_3_4 (broadcastInDim S2x6x2x1024x1 ![0, 1, 2, 3] bcast_S2x6x2x1024_S2x6x2x1024x1_0_1_2_3 (refM s))))

/-- The softmax over the keys. -/
def refP (s : FVec F S2x6x2x1024x1280 .f32) : FVec F S2x6x2x1024x1280 .f32 :=
  Host.divf (refE s) (broadcastInDim S2x6x2x1024x1280 ![0, 1, 2, 3, 4] bcast_S2x6x2x1024x1_S2x6x2x1024x1280_0_1_2_3_4 (broadcastInDim S2x6x2x1024x1 ![0, 1, 2, 3] bcast_S2x6x2x1024_S2x6x2x1024x1_0_1_2_3 (Host.reduceAdd (refE s) (constant S_ .f32 0x00000000#32) reducesTo_S2x6x2x1024x1280_S2x6x2x1024_d4 h_S_)))

/-- The difference of the two maps against the values. -/
def refO (p : FVec F S2x6x2x1024x1280 .f32) (x2 : FVec F S2048x768 .f32) (x4 : FVec F S2x1x6x256x128 .f32) (x5 : FVec F S1x1 .f32) :
    FVec F S2x6x1024x128 .f32 :=
  Host.dotGeneral dot_S2x6x1024x1280_S2x6x1280x128_S2x6x1024x128_3_2_2_3_01_01 none (subf (shapeCast _ (extractStridedSlice S2x6x1x1024x1280 ![0, 0, 0, 0, 0] p slices_S2x6x2x1024x1280_S2x6x1x1024x1280_0_0_0_0_0) shapeCasts_S2x6x1x1024x1280_S2x6x1024x1280) (mulf (broadcastInDim S2x6x1024x1280 ![0, 1, 2, 3] bcast_S1x1x1x1_S2x6x1024x1280_0_1_2_3 (shapeCast _ x5 shapeCasts_S1x1_S1x1x1x1)) (shapeCast _ (extractStridedSlice S2x6x1x1024x1280 ![0, 0, 1, 0, 0] p slices_S2x6x2x1024x1280_S2x6x1x1024x1280_0_0_1_0_0) shapeCasts_S2x6x1x1024x1280_S2x6x1024x1280))) (concatenate S2x6x1280x128 2 [⟨S2x6x256x128, (shapeCast _ x4 shapeCasts_S2x1x6x256x128_S2x6x256x128)⟩, ⟨S2x6x1024x128, (transpose S2x6x1024x128 [0, 2, 1, 3] (shapeCast _ x2 shapeCasts_S2048x768_S2x1024x6x128) transposes_S2x1024x6x128_S2x6x1024x128_0_2_1_3)⟩] concatenates_S2x6x256x128_S2x6x1024x128_S2x6x1280x128_d2)

/-- The normalisation over each head's lanes, laid out as the result. -/
def refN (o : FVec F S2x6x1024x128 .f32) (x6 : FVec F S1x128 .f32) : FVec F S2048x768 .bf16 :=
  truncf .bf16 (shapeCast _ (transpose S2x1024x6x128 [0, 2, 1, 3] (mulf (mulf (mulf o (broadcastInDim S2x6x1024x128 ![0, 1, 2, 3] bcast_S2x6x1024x1_S2x6x1024x128_0_1_2_3 (Host.rsqrt (addf (Host.divf (broadcastInDim S2x6x1024x1 ![0, 1, 2] bcast_S2x6x1024_S2x6x1024x1_0_1_2 (Host.reduceAdd (mulf o o) (constant S_ .f32 0x00000000#32) reducesTo_S2x6x1024x128_S2x6x1024_d3 h_S_)) (broadcastInDim S2x6x1024x1 ![] bcast_S_S2x6x1024x1 (constant S_ .f32 0x43000000#32))) (broadcastInDim S2x6x1024x1 ![] bcast_S_S2x6x1024x1 (constant S_ .f32 0x3727C5AC#32)))))) (broadcastInDim S2x6x1024x128 ![0, 1, 2, 3] bcast_S1x1x1x128_S2x6x1024x128_0_1_2_3 (broadcastInDim S1x1x1x128 ![3] bcast_S128_S1x1x1x128_3 (shapeCast _ x6 shapeCasts_S1x128_S128)))) (broadcastInDim S2x6x1024x128 ![] bcast_S_S2x6x1024x128 (constant S_ .f32 0x3F4CCCCD#32))) transposes_S2x6x1024x128_S2x1024x6x128_0_2_1_3) shapeCasts_S2x1024x6x128_S2048x768) bitsLt_bf16_f32

/-- The whole reference. -/
def REF (x0 x1 x2 : FVec F S2048x768 .f32) (x3 x4 : FVec F S2x1x6x256x128 .f32) (x5 : FVec F S1x1 .f32) (x6 : FVec F S1x128 .f32) :
    FVec F S2048x768 .bf16 :=
  refN (refO (refP (refS x0 x1 x3)) x2 x4 x5) x6

theorem res_eq (m : (ℓ : Loc nD τ sig) → Buf (Elt F) ℓ) (c : Dev nD) :
    res_main_v53 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end

/-- Row `i` of batch `b`. -/
def row (b : Fin 2) (i : Fin 1024) : Fin 2048 := ⟨1024 * b + i, by omega⟩
/-- Lane `e` of head `h`. -/
def col (h : Fin 6) (e : Fin 128) : Fin 768 := ⟨128 * h + e, by omega⟩

/-- Two entries of a matrix at equal coordinates. -/
theorem at2 {m n : ℕ} (x : FVec Ideal ⟨2, ![m, n]⟩ .f32) (i i' : Fin m) (j j' : Fin n) (hi : (i : ℕ) = i') (hj : (j : ℕ) = j') :
    x (ix2 i j) = x (ix2 i' j') := by
  rw [Fin.ext hi, Fin.ext hj]

/-- Two entries of a cache at equal lanes. -/
theorem at5 {a b c d e : ℕ} (x : FVec Ideal ⟨5, ![a, b, c, d, e]⟩ .f32) (i : Fin a) (j : Fin b) (k : Fin c) (l : Fin d) (n n' : Fin e) (h : (n : ℕ) = n') :
    x (ix5 i j k l n) = x (ix5 i j k l n') := by
  rw [Fin.ext h]

/-- The word of one eighth. -/
theorem eighth : Ideal.ofBits .f32 0x3E000000#32 = ((1 / 8 : ℝ) : EReal) := by
  simp [Ideal.ofBits, Ideal.ieee]
  rw [← EReal.coe_mul]
  norm_num

/-- A maximum of two arrays at an index. -/
theorem max_at {s : Shape} (x y : FVec Ideal s .f32) (i : s.Idx) : maximumf x y i = max (x i) (y i) := rfl

/-- A scalar word spread over an array. -/
theorem spread_at {s : Shape} (w : BitVec 32) (h : S_.BroadcastsInDim s ![]) (i : s.Idx) :
    (broadcastInDim s ![] h (constant S_ .f32 w) : FVec Ideal s .f32) i = Ideal.ofBits .f32 w := rfl

/-- The host's maximum over the last of five axes. -/
theorem reduce_max {n0 n1 n2 n3 n4 : ℕ} {t u : Shape} (h : (⟨5, ![n0, n1, n2, n3, n4]⟩ : Shape).ReducesTo [4] t) (hu : 0 < u.numel)
    (s : FVec Ideal ⟨5, ![n0, n1, n2, n3, n4]⟩ .f32) (i : FVec Ideal u .f32) (j : t.Idx) :
    Host.reduce FloatOps.maximumf s i h hu j =
      (Finset.univ : Finset (Fin n4)).fold FloatOps.maximumf (i (Shape.Idx.first hu)) (fun k => s (ix5 ⟨(j ⟨0, h.lt_r5_a4_0⟩).val, Shape.coordLt (j ⟨0, h.lt_r5_a4_0⟩) h.size_r5_a4_0⟩ ⟨(j ⟨1, h.lt_r5_a4_1⟩).val, Shape.coordLt (j ⟨1, h.lt_r5_a4_1⟩) h.size_r5_a4_1⟩ ⟨(j ⟨2, h.lt_r5_a4_2⟩).val, Shape.coordLt (j ⟨2, h.lt_r5_a4_2⟩) h.size_r5_a4_2⟩ ⟨(j ⟨3, h.lt_r5_a4_3⟩).val, Shape.coordLt (j ⟨3, h.lt_r5_a4_3⟩) h.size_r5_a4_3⟩ k)) := by
  rw [Host.reduce_eq_fold, Shape.ReducesTo.fold_fiber_r5_a4]

theorem refM_at (s : FVec Ideal S2x6x2x1024x1280 .f32) (b : Fin 2) (h : Fin 6) (c : Fin 2) (r : Fin 1024) :
    refM s (ix4 b h c r) = mx (fun j => s (ix5 b h c r j)) := by
  unfold refM
  rw [max_at, spread_at, ofBits_neg_inf, max_eq_right bot_le, reduce_max]
  have e2 : (constant S_ .f32 0xFF800000#32 : FVec Ideal S_ .f32) (Shape.Idx.first h_S_) = ⊥ := ofBits_neg_inf
  rw [e2]
  rfl

theorem refE_at (s : FVec Ideal S2x6x2x1024x1280 .f32) (b : Fin 2) (h : Fin 6) (c : Fin 2) (r : Fin 1024) (j : Fin 1280) :
    refE s (ix5 b h c r j) = Ideal.exp (s (ix5 b h c r j) - refM s (ix4 b h c r)) := by
  pointwise [refE]

theorem refP_at (s : FVec Ideal S2x6x2x1024x1280 .f32) (b : Fin 2) (h : Fin 6) (c : Fin 2) (r : Fin 1024) (j : Fin 1280) :
    refP s (ix5 b h c r j) = soft (fun j => s (ix5 b h c r j)) j := by
  pointwise [refP]
  simp only [refE_at, refM_at]
  rfl

/-- The scores, as products over half a head's lanes with the query scaled. -/
theorem refS_at (x0 x1 : FVec Ideal S2048x768 .f32) (x3 : FVec Ideal S2x1x6x256x128 .f32) (b : Fin 2) (h : Fin 6) (c : Fin 2) (r : Fin 1024) (j : Fin 1280)
    (h0 : ∀ i, ∃ y : ℝ, x0 i = y) (h1 : ∀ i, ∃ y : ℝ, x1 i = y) (h3 : ∀ i, ∃ y : ℝ, x3 i = y) :
    refS x0 x1 x3 (ix5 b h c r j) =
      cat (fun i => dot c (fun e => x3 (ix5 b 0 h i e)) (fun e => x0 (ix2 (row b r) (col h e)) * Ideal.ofBits .f32 0x3E000000#32))
        (fun i => dot c (fun e => x1 (ix2 (row b i) (col h e))) (fun e => x0 (ix2 (row b r) (col h e)) * Ideal.ofBits .f32 0x3E000000#32)) j := by
  pointwise [refS]
  rw [eighth]
  by_cases hj : (j : ℕ) < 256
  · simp only [cat, hj, dite_true, dot]
    rw [sum_mul_scale _ _ _ (fun d => h3 _) (fun d => h0 _)]
    exact congrArg (· * _) (Finset.sum_congr rfl fun d _ => congrArg₂ (· * ·) (at2 x0 _ _ _ _ (by simp [row]; omega) (by simp [col, lane]; omega)) (at5 x3 _ _ _ _ _ _ (by simp [lane]; omega)))
  · simp only [cat, hj, dite_false, dot]
    rw [sum_mul_scale _ _ _ (fun d => h1 _) (fun d => h0 _)]
    exact congrArg (· * _) (Finset.sum_congr rfl fun d _ => congrArg₂ (· * ·) (at2 x0 _ _ _ _ (by simp [row]; omega) (by simp [col, lane]; omega)) (at2 x1 _ _ _ _ (by simp [row]; omega) (by simp [col, lane]; omega)))

theorem refO_at (p : FVec Ideal S2x6x2x1024x1280 .f32) (x2 : FVec Ideal S2048x768 .f32) (x4 : FVec Ideal S2x1x6x256x128 .f32) (x5 : FVec Ideal S1x1 .f32)
    (b : Fin 2) (h : Fin 6) (r : Fin 1024) (e : Fin 128) :
    refO p x2 x4 x5 (ix4 b h r e) = ∑ j, (p (ix5 b h 0 r j) - x5 (ix2 0 0) * p (ix5 b h 1 r j)) * cat (fun i => x4 (ix5 b 0 h i e)) (fun i => x2 (ix2 (row b i) (col h e))) j := by
  rw [sum_cat]
  simp only [cat_l, cat_r]
  pointwise [refO]
  exact congrArg (_ + ·) (Finset.sum_congr rfl fun x _ => congrArg (_ * ·) (at2 x2 _ _ _ _ (by simp [row]; omega) (by simp [col]; omega)))

theorem refN_at (o : FVec Ideal S2x6x1024x128 .f32) (x6 : FVec Ideal S1x128 .f32) (R : Fin 2048) (C : Fin 768) :
    refN o x6 (ix2 R C) = out (fun e => o (ix4 ⟨R / 1024, by omega⟩ ⟨C / 128, by omega⟩ ⟨R % 1024, by omega⟩ e)) (fun e => x6 (ix2 0 e)) ⟨C % 128, by omega⟩ := by
  pointwise [refN]
  rfl

/-- The reference's result at a row and a lane of a head. -/
theorem REF_at (x0 x1 x2 : FVec Ideal S2048x768 .f32) (x3 x4 : FVec Ideal S2x1x6x256x128 .f32) (x5 : FVec Ideal S1x1 .f32) (x6 : FVec Ideal S1x128 .f32)
    (h0 : ∀ i, ∃ y : ℝ, x0 i = y) (h1 : ∀ i, ∃ y : ℝ, x1 i = y) (h3 : ∀ i, ∃ y : ℝ, x3 i = y)
    (R : Fin 2048) (C : Fin 768) (b : Fin 2) (h : Fin 6) (r : Fin 1024) (d : Fin 128) (hR : (R : ℕ) = 1024 * b + r) (hC : (C : ℕ) = 128 * h + d) :
    REF x0 x1 x2 x3 x4 x5 x6 (ix2 R C) =
      out (fun e => att
          (cat (fun i => dot 0 (fun e => x3 (ix5 b 0 h i e)) (fun e => x0 (ix2 R (col h e)) * Ideal.ofBits .f32 0x3E000000#32))
            (fun i => dot 0 (fun e => x1 (ix2 (row b i) (col h e))) (fun e => x0 (ix2 R (col h e)) * Ideal.ofBits .f32 0x3E000000#32)))
          (cat (fun i => dot 1 (fun e => x3 (ix5 b 0 h i e)) (fun e => x0 (ix2 R (col h e)) * Ideal.ofBits .f32 0x3E000000#32))
            (fun i => dot 1 (fun e => x1 (ix2 (row b i) (col h e))) (fun e => x0 (ix2 R (col h e)) * Ideal.ofBits .f32 0x3E000000#32)))
          (cat (fun i => x4 (ix5 b 0 h i e)) (fun i => x2 (ix2 (row b i) (col h e)))) (x5 (ix2 0 0)))
        (fun e => x6 (ix2 0 e)) d := by
  have eR : R = row b r := Fin.ext hR
  have e1 : (⟨R / 1024, by omega⟩ : Fin 2) = b := Fin.ext (by simp only; omega)
  have e2 : (⟨C / 128, by omega⟩ : Fin 6) = h := Fin.ext (by simp only; omega)
  have e3 : (⟨R % 1024, by omega⟩ : Fin 1024) = r := Fin.ext (by simp only; omega)
  have e4 : (⟨C % 128, by omega⟩ : Fin 128) = d := Fin.ext (by simp only; omega)
  unfold REF
  rw [refN_at, e1, e2, e3, e4]
  simp only [refO_at, refP_at, refS_at x0 x1 x3 _ _ _ _ _ h0 h1 h3]
  rw [eR]
  rfl

end Cert.AttnRefIdeal.Stage

end
-- ==== Proof.AttnValue.lean ====
/- The latent attention kernel's result, block by block, is the reference's. -/
module

public import proofs.«01_k».proof.Proof.AttnHead
public import proofs.«01_k».proof.Proof.AttnRef
public import proofs.«01_k».proof.Proof.Gen.AttnIdeal.Value
public import Idealize.ShloMosaic.Lib.Claim

@[expose] public section

set_option maxRecDepth 16384

noncomputable section

namespace Cert.AttnIdeal.Final

open Idealize Idealize.ShloMosaic Idealize.SL.Sem Cert.AttnIdeal Cert.AttnIdeal.Gen Cert.AttnMath Cert.AttnIdeal.Head Cert.AttnRefIdeal.Stage

variable (m : (ℓ : Loc nD τ sig) → Buf (Elt Ideal) ℓ)

theorem idx : ∀ t : Fin cfg0.N, win0_0.index t = ![t.val, 0] ∧ win0_1.index t = ![t.val / 4, 0] ∧ win0_2.index t = ![t.val / 4, 0]
    ∧ win0_3.index t = ![t.val / 4, 0, 0, 0, 0] ∧ win0_4.index t = ![t.val / 4, 0, 0, 0, 0] ∧ win0_5.index t = ![0, 0] ∧ win0_6.index t = ![0, 0] ∧ win0_7.index t = ![t.val, 0] :=
  (by decide +kernel : ∀ t : Fin grid0.N, _)

/-- A score of finite rows is finite. -/
theorem score_real (c : Fin 2) (a : Fin 256 → Fin 128 → EReal) (b : Fin 1024 → Fin 128 → EReal) (q : Fin 128 → EReal) (j : Fin 1280)
    (ha : ∀ i e, ∃ y : ℝ, a i e = y) (hb : ∀ i e, ∃ y : ℝ, b i e = y) (hq : ∀ e, ∃ y : ℝ, q e = y) :
    ∃ y : ℝ, cat (fun i => dot c (a i) q) (fun i => dot c (b i) q) j = y := by
  unfold cat
  split
  · exact sum_mul_real _ _ (fun d => ha _ _) (fun d => hq _)
  · exact sum_mul_real _ _ (fun d => hb _ _) (fun d => hq _)

/-- One head of one block of rows against the reference. -/
theorem core (x0 x1 x2 : FVec Ideal S2048x768 .f32) (x3 x4 : FVec Ideal S2x1x6x256x128 .f32) (x5 : FVec Ideal S1x1 .f32) (x6 : FVec Ideal S1x128 .f32)
    (h0 : ∀ i, ∃ y : ℝ, x0 i = y) (h1 : ∀ i, ∃ y : ℝ, x1 i = y) (h3 : ∀ i, ∃ y : ℝ, x3 i = y)
    (l : Vec Ideal S1x1 .f32) (g : Vec Ideal S128x1 .f32) (q : Vec Ideal S256x128 .bf16) (ck : Vec Ideal S1x1x1x256x128 .f32)
    (k : Vec Ideal S1024x128 .bf16) (cv : Vec Ideal S1x1x1x256x128 .f32) (v : Vec Ideal S1024x128 .bf16)
    (b : Fin 2) (h : Fin 6) (r : Fin 1024) (a : Fin 256) (d : Fin 128) (R : Fin 2048) (C : Fin 768)
    (hl : l (ix2 0 0) = x5 (ix2 0 0)) (hg : ∀ e, g (ix2 e 0) = x6 (ix2 0 e))
    (hq : ∀ e, q (ix2 a e) = x0 (ix2 R (col h e)) * Ideal.ofBits .f32 0x3E000000#32)
    (hck : ∀ i e, ck (ix5 0 0 0 i e) = x3 (ix5 b 0 h i e)) (hcv : ∀ i e, cv (ix5 0 0 0 i e) = x4 (ix5 b 0 h i e))
    (hk : ∀ i e, k (ix2 i e) = x1 (ix2 (row b i) (col h e))) (hv : ∀ i e, v (ix2 i e) = x2 (ix2 (row b i) (col h e)))
    (hR : (R : ℕ) = 1024 * b + r) (hC : (C : ℕ) = 128 * h + d) :
    head l g q ck k cv v (ix2 a d) = Cert.AttnRefIdeal.Stage.REF x0 x1 x2 x3 x4 x5 x6 (ix2 R C) := by
  obtain ⟨s, hs⟩ : ∃ y : ℝ, Ideal.ofBits .f32 0x3E000000#32 = y := ⟨_, eighth⟩
  have hqr : ∀ e, ∃ y : ℝ, q (ix2 a e) = y := fun e => by
    obtain ⟨y, hy⟩ := h0 (ix2 R (col h e))
    exact ⟨y * s, by rw [hq, hy, hs, EReal.coe_mul]⟩
  rw [head_at l g q ck k cv v a d (fun c i => score_real c _ _ _ i (fun i e => by rw [hck]; exact h3 _) (fun i e => by rw [hk]; exact h1 _) hqr),
    REF_at x0 x1 x2 x3 x4 x5 x6 h0 h1 h3 R C b h r d hR hC]
  simp only [hl, hg, hq, hck, hcv, hk, hv]

/-- Arguments as launched. -/
abbrev A0 (c : Dev nD) : FVec Ideal S2048x768 .f32 := m ((c.tc : Thread nD τ).loc main_arg0)
abbrev A1 (c : Dev nD) : FVec Ideal S2048x768 .f32 := m ((c.tc : Thread nD τ).loc main_arg1)
abbrev A3 (c : Dev nD) : FVec Ideal S2x1x6x256x128 .f32 := m ((c.tc : Thread nD τ).loc main_arg3)
abbrev A5 (c : Dev nD) : FVec Ideal S1x1 .f32 := m ((c.tc : Thread nD τ).loc main_arg5)
abbrev A6 (c : Dev nD) : FVec Ideal S1x128 .f32 := m ((c.tc : Thread nD τ).loc main_arg6)

theorem q_at (c : Dev nD) (t : Fin cfg0.N) (r : Fin 256) (e : Fin 768) (R : Fin 2048) (hR : (R : ℕ) = 256 * t + r) :
    (iblk m c 0 t : Vec Ideal S256x768 .bf16) (ix2 r e) = A0 m c (ix2 R e) * Ideal.ofBits .f32 0x3E000000#32 := by
  unfold iblk
  entry_read
  have e0 : A0 m c ((win0_0.blk t).view.emb (ix2 r e)) = A0 m c (ix2 R e) := by blk_ext [idx t]
  exact congrArg (fun z : EReal => z * Ideal.ofBits .f32 0x3E000000#32) e0

theorem k_at (c : Dev nD) (t : Fin cfg0.N) (b : Fin 2) (hb : (b : ℕ) = t / 4) (r : Fin 1024) (e : Fin 768) :
    (iblk m c 1 t : Vec Ideal S1024x768 .bf16) (ix2 r e) = (m ((c.tc : Thread nD τ).loc main_arg1) : FVec Ideal S2048x768 .f32) (ix2 (row b r) e) := by
  unfold iblk
  entry_read
  blk_point [idx t, row]

theorem v_at (c : Dev nD) (t : Fin cfg0.N) (b : Fin 2) (hb : (b : ℕ) = t / 4) (r : Fin 1024) (e : Fin 768) :
    (iblk m c 2 t : Vec Ideal S1024x768 .bf16) (ix2 r e) = (m ((c.tc : Thread nD τ).loc main_arg2) : FVec Ideal S2048x768 .f32) (ix2 (row b r) e) := by
  unfold iblk
  entry_read
  blk_point [idx t, row]

theorem ck_at (c : Dev nD) (t : Fin cfg0.N) (b : Fin 2) (hb : (b : ℕ) = t / 4) (h : Fin 6) (i : Fin 256) (e : Fin 128) :
    (iblk m c 3 t : Vec Ideal S1x1x6x256x128 .f32) (ix5 0 0 h i e) = (m ((c.tc : Thread nD τ).loc main_arg3) : FVec Ideal S2x1x6x256x128 .f32) (ix5 b 0 h i e) := by
  blk_point [iblk, V, idx t]

theorem cv_at (c : Dev nD) (t : Fin cfg0.N) (b : Fin 2) (hb : (b : ℕ) = t / 4) (h : Fin 6) (i : Fin 256) (e : Fin 128) :
    (iblk m c 4 t : Vec Ideal S1x1x6x256x128 .f32) (ix5 0 0 h i e) = (m ((c.tc : Thread nD τ).loc main_arg4) : FVec Ideal S2x1x6x256x128 .f32) (ix5 b 0 h i e) := by
  blk_point [iblk, V, idx t]

theorem l_at (c : Dev nD) (t : Fin cfg0.N) :
    (iblk m c 5 t : Vec Ideal S8x128 .f32) (ix2 0 0) = A5 m c (ix2 0 0) := by
  unfold iblk
  entry_read
  blk_simp [idx t]
  pointwise
  blk_ext [idx t]

theorem g_at (c : Dev nD) (t : Fin cfg0.N) (e : Fin 128) :
    (iblk m c 6 t : Vec Ideal S128x1 .f32) (ix2 e 0) = A6 m c (ix2 0 e) := by
  unfold iblk
  entry_read
  blk_simp [idx t]
  pointwise
  blk_ext [idx t]

/-- Finiteness of what the scores read. -/
def Fine (c : Dev nD) : Prop :=
  (∀ i, ∃ y : ℝ, A0 m c i = y) ∧ (∀ i, ∃ y : ℝ, A1 m c i = y) ∧ ∀ i, ∃ y : ℝ, A3 m c i = y

/-- The reference's result on this launch's arguments. -/
abbrev res (c : Dev nD) : FVec Ideal S2048x768 .bf16 :=
  Cert.AttnRefIdeal.Stage.REF (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- One head's store at point `t`. -/
theorem tile (c : Dev nD) (hf : Fine m c) (t : Fin cfg0.N) (h : Fin 6) (l : Vec Ideal S1x1 .f32) (g : Vec Ideal S128x1 .f32) (q : Vec Ideal S256x128 .bf16)
    (ck : Vec Ideal S1x1x1x256x128 .f32) (k : Vec Ideal S1024x128 .bf16) (cv : Vec Ideal S1x1x1x256x128 .f32) (v : Vec Ideal S1024x128 .bf16)
    (hl : l (ix2 0 0) = (iblk m c 5 t : Vec Ideal S8x128 .f32) (ix2 0 0)) (hg : ∀ e, g (ix2 e 0) = (iblk m c 6 t : Vec Ideal S128x1 .f32) (ix2 e 0))
    (hq : ∀ r e, q (ix2 r e) = (iblk m c 0 t : Vec Ideal S256x768 .bf16) (ix2 r (col h e)))
    (hck : ∀ i e, ck (ix5 0 0 0 i e) = (iblk m c 3 t : Vec Ideal S1x1x6x256x128 .f32) (ix5 0 0 h i e))
    (hcv : ∀ i e, cv (ix5 0 0 0 i e) = (iblk m c 4 t : Vec Ideal S1x1x6x256x128 .f32) (ix5 0 0 h i e))
    (hk : ∀ i e, k (ix2 i e) = (iblk m c 1 t : Vec Ideal S1024x768 .bf16) (ix2 i (col h e)))
    (hv : ∀ i e, v (ix2 i e) = (iblk m c 2 t : Vec Ideal S1024x768 .bf16) (ix2 i (col h e)))
    (x : S256x128.Idx) (j : S2048x768.Idx) (hj0 : (j 0 : ℕ) = 256 * t + x 0) (hj1 : (j 1 : ℕ) = 128 * h + x 1) :
    head l g q ck k cv v x = res m c j := by
  have ht : t.val < 8 := lt_of_lt_of_eq t.isLt N_0
  have hx0 : (x 0 : ℕ) < 256 := (x 0).isLt
  have ex : x = ix2 (n0 := 256) (n1 := 128) (x 0) (x 1) := by funext a; fin_cases a <;> rfl
  have ej : j = ix2 (n0 := 2048) (n1 := 768) (j 0) (j 1) := by funext a; fin_cases a <;> rfl
  have eb : ((⟨t.val / 4, by omega⟩ : Fin 2) : ℕ) = t / 4 := rfl
  rw [ex, ej]
  refine core _ _ _ _ _ _ _ hf.1 hf.2.1 hf.2.2 l g q ck k cv v ⟨t.val / 4, by omega⟩ h ⟨256 * (t.val % 4) + x 0, by omega⟩ (x 0) (x 1) (j 0) (j 1)
    (hl.trans (l_at m c t)) (fun e => (hg e).trans (g_at m c t e)) (fun e => (hq _ e).trans (q_at m c t _ _ _ hj0))
    (fun i e => (hck i e).trans (ck_at m c t _ eb h i e)) (fun i e => (hcv i e).trans (cv_at m c t _ eb h i e))
    (fun i e => (hk i e).trans (k_at m c t _ eb i _)) (fun i e => (hv i e).trans (v_at m c t _ eb i _)) ?_ hj1
  rw [hj0]
  simp only
  omega

/-- What each head's rectangles read. -/
theorem ld_q (x : Vec Ideal S256x768 .bf16) (r : Fin 256) (e : Fin 128) :
    View.ld x r0_2 (ix2 r e) = x (ix2 r (col 0 e))
      ∧ View.ld x r0_5 (ix2 r e) = x (ix2 r (col 1 e))
      ∧ View.ld x r0_8 (ix2 r e) = x (ix2 r (col 2 e))
      ∧ View.ld x r0_11 (ix2 r e) = x (ix2 r (col 3 e))
      ∧ View.ld x r0_14 (ix2 r e) = x (ix2 r (col 4 e))
      ∧ View.ld x r0_17 (ix2 r e) = x (ix2 r (col 5 e)) := by
  refine ⟨?_, ?_, ?_, ?_, ?_, ?_⟩ <;> refine View.ld_unit_apply_of x _ _ _ _ _ (fun a => ?_) <;> fin_cases a <;> simp [col]

theorem ld_c (x : Vec Ideal S1x1x6x256x128 .f32) (r : Fin 256) (e : Fin 128) :
    View.ld x r0_3 (ix5 0 0 0 r e) = x (ix5 0 0 0 r e)
      ∧ View.ld x r0_6 (ix5 0 0 0 r e) = x (ix5 0 0 1 r e)
      ∧ View.ld x r0_9 (ix5 0 0 0 r e) = x (ix5 0 0 2 r e)
      ∧ View.ld x r0_12 (ix5 0 0 0 r e) = x (ix5 0 0 3 r e)
      ∧ View.ld x r0_15 (ix5 0 0 0 r e) = x (ix5 0 0 4 r e)
      ∧ View.ld x r0_18 (ix5 0 0 0 r e) = x (ix5 0 0 5 r e) := by
  refine ⟨?_, ?_, ?_, ?_, ?_, ?_⟩ <;> refine View.ld_unit_apply_of x _ _ _ _ _ (fun a => ?_) <;> fin_cases a <;> simp [col]

theorem ld_k (x : Vec Ideal S1024x768 .bf16) (r : Fin 1024) (e : Fin 128) :
    View.ld x r0_4 (ix2 r e) = x (ix2 r (col 0 e))
      ∧ View.ld x r0_7 (ix2 r e) = x (ix2 r (col 1 e))
      ∧ View.ld x r0_10 (ix2 r e) = x (ix2 r (col 2 e))
      ∧ View.ld x r0_13 (ix2 r e) = x (ix2 r (col 3 e))
      ∧ View.ld x r0_16 (ix2 r e) = x (ix2 r (col 4 e))
      ∧ View.ld x r0_19 (ix2 r e) = x (ix2 r (col 5 e)) := by
  refine ⟨?_, ?_, ?_, ?_, ?_, ?_⟩ <;> refine View.ld_unit_apply_of x _ _ _ _ _ (fun a => ?_) <;> fin_cases a <;> simp [col]

theorem ld_l (x : Vec Ideal S8x128 .f32) : View.ld x r0_0 (ix2 0 0) = x (ix2 0 0) :=
  View.ld_unit_apply_of x _ _ _ _ _ (fun a => by fin_cases a <;> simp)

theorem ld_g (x : Vec Ideal S128x1 .f32) (e : Fin 128) : View.ld x r0_1 (ix2 e 0) = x (ix2 e 0) :=
  View.ld_unit_apply_of x _ _ _ _ _ (fun a => by fin_cases a <;> simp)

theorem point (c : Dev nD) (hf : Fine m c) (t : Fin cfg0.N) (y : S256x768.Idx) (j : S2048x768.Idx) (hj0 : (j 0 : ℕ) = 256 * t + y 0) (hj1 : (j 1 : ℕ) = y 1) :
    out0_7 (iblk m c 0 t) (iblk m c 1 t) (iblk m c 2 t) (iblk m c 3 t) (iblk m c 4 t) (iblk m c 5 t) (iblk m c 6 t) y = res m c j := by
  rw [out_eq]
  canon_tiles x h
  case piece0 =>
    exact tile m c hf t 5 _ _ _ _ _ _ _ (ld_l _) (ld_g _) (fun r e => (ld_q _ r e).2.2.2.2.2) (fun r e => (ld_c _ r e).2.2.2.2.2) (fun r e => (ld_c _ r e).2.2.2.2.2)
      (fun r e => (ld_k _ r e).2.2.2.2.2) (fun r e => (ld_k _ r e).2.2.2.2.2) x j (by omega) (by rw [hj1, h1]; rfl)
  case piece1 =>
    exact tile m c hf t 4 _ _ _ _ _ _ _ (ld_l _) (ld_g _) (fun r e => (ld_q _ r e).2.2.2.2.1) (fun r e => (ld_c _ r e).2.2.2.2.1) (fun r e => (ld_c _ r e).2.2.2.2.1)
      (fun r e => (ld_k _ r e).2.2.2.2.1) (fun r e => (ld_k _ r e).2.2.2.2.1) x j (by omega) (by rw [hj1, h1]; rfl)
  case piece2 =>
    exact tile m c hf t 3 _ _ _ _ _ _ _ (ld_l _) (ld_g _) (fun r e => (ld_q _ r e).2.2.2.1) (fun r e => (ld_c _ r e).2.2.2.1) (fun r e => (ld_c _ r e).2.2.2.1)
      (fun r e => (ld_k _ r e).2.2.2.1) (fun r e => (ld_k _ r e).2.2.2.1) x j (by omega) (by rw [hj1, h1]; rfl)
  case piece3 =>
    exact tile m c hf t 2 _ _ _ _ _ _ _ (ld_l _) (ld_g _) (fun r e => (ld_q _ r e).2.2.1) (fun r e => (ld_c _ r e).2.2.1) (fun r e => (ld_c _ r e).2.2.1)
      (fun r e => (ld_k _ r e).2.2.1) (fun r e => (ld_k _ r e).2.2.1) x j (by omega) (by rw [hj1, h1]; rfl)
  case piece4 =>
    exact tile m c hf t 1 _ _ _ _ _ _ _ (ld_l _) (ld_g _) (fun r e => (ld_q _ r e).2.1) (fun r e => (ld_c _ r e).2.1) (fun r e => (ld_c _ r e).2.1)
      (fun r e => (ld_k _ r e).2.1) (fun r e => (ld_k _ r e).2.1) x j (by omega) (by rw [hj1, h1]; rfl)
  case piece5 =>
    exact tile m c hf t 0 _ _ _ _ _ _ _ (ld_l _) (ld_g _) (fun r e => (ld_q _ r e).1) (fun r e => (ld_c _ r e).1) (fun r e => (ld_c _ r e).1)
      (fun r e => (ld_k _ r e).1) (fun r e => (ld_k _ r e).1) x j (by omega) (by rw [hj1, h1]; simp)

theorem final (c : Dev nD) (hf : Fine m c) : (dats m 0 c).arrAt 7 (cfgs 0).N = res m c := by
  refine (dats m 0 c).arrAt_eq_of_covers 7 _ (by decide +kernel) fun t _ y => ?_
  blk_simp
  rw [after0_7]
  refine point m c hf t y _ ?_ ?_ <;> blk_simp [idx t] <;> try omega

end Cert.AttnIdeal.Final

end
-- ==== Proof.AttnClaim.lean ====
/- The latent attention kernel computes what its reference does. -/
module

public import proofs.«01_k».proof.Defs
public import proofs.«01_k».proof.Proof.AttnValue
public import proofs.«01_k».proof.Proof.Gen.Pre_finite_scores
public import proofs.«01_k».proof.Proof.Gen.AttnRefIdeal.Run
public import Idealize.ShloMosaic.Lib.Claim

@[expose] public section

set_option maxRecDepth 16384

noncomputable section

namespace Cert.AttnIdeal.Final

open Idealize Idealize.ShloMosaic Idealize.SL.Sem

/-- A comparison of magnitudes below plus infinity says the array is finite. -/
theorem real_of_lt {s : Shape} (h : (⟨0, ![]⟩ : Shape).BroadcastsInDim s ![]) (x : FVec Ideal s .f32)
    (e : cmpf .olt (Host.absf x) (broadcastInDim s ![] h (constant ⟨0, ![]⟩ .f32 0x7F800000#32)) = fun _ => 1#1) (i : s.Idx) :
    ∃ y : ℝ, x i = y := by
  have e' := congrFun e i
  have e1 : BitVec.ofBool (decide ((max (x i) (-(x i)) : EReal) < Ideal.ofBits .f32 0x7F800000#32)) = 1#1 := e'
  rw [Cert.AttnMath.ofBits_pos_inf] at e1
  have e2 : (max (x i) (-(x i)) : EReal) < ⊤ := by
    by_contra hc
    rw [decide_eq_false hc] at e1
    exact absurd e1 (by decide)
  obtain ⟨e3, e4⟩ := max_lt_iff.mp e2
  refine ⟨(x i : EReal).toReal, (EReal.coe_toReal e3.ne ?_).symm⟩
  intro hb
  rw [hb] at e4
  exact absurd e4 (by simp)

/-- The precondition's arrays are finite. -/
theorem fine (m : (ℓ : Loc nD τ sig) → Buf (Elt Ideal) ℓ) (h : Cert.Pre_AttnIdeal_finite_scores m) (c : Dev nD) : Fine m c :=
  ⟨real_of_lt _ _ (h c).1, real_of_lt _ _ (h c).2.1, real_of_lt _ _ (h c).2.2⟩

/-- Kernel and reference end with the same result. -/
theorem algebraic : Cert.algebraic_AttnIdeal_AttnRefIdeal_pre_finite_scores := by
  pair_intro
  · run_from Cert.AttnIdeal.Gen.run_main m g
  · run_from Cert.AttnRefIdeal.Value.run m' g'
    obtain ⟨h0, h1, h2, h3, h4, h5, h6⟩ := hagree c
    rw [Cert.AttnRefIdeal.Stage.res_eq, final m c (fine m hpre c), h0, h1, h2, h3, h4, h5, h6]

end Cert.AttnIdeal.Final

end
-- ==== Proof.FfnGeo.lean ====
/- The rectangles the expert feed-forward call stores its result through: eight strided ones (row 8 n + j for j = 0 … 7) and the
   block of zero rows behind them. Together they are the whole output block. -/
module

public import Idealize.ShloMosaic.Lib.Pipeline.ValueKit

@[expose] public section

noncomputable section

namespace Cert.FfnGeo

open Idealize.ShloMosaic

/-- The output block. -/
abbrev SBlk : Shape := ⟨3, ![1, 11264, 128]⟩

/-- Pieces among which are the eight strided rectangles and the zero rows' cover the block. -/
theorem cover {Val : EltTy → Type} {e : EltTy} (L : List (View.Piece Val SBlk e))
    (h : ∀ j : Fin 8, ∃ p ∈ L, p.1.off = ![0, j.val, 0] ∧ p.1.size = ![1, 1280, 128] ∧ p.1.stride = ![1, 8, 1])
    (hz : ∃ p ∈ L, p.1.off = ![0, 10240, 0] ∧ p.1.size = ![1, 1024, 128] ∧ p.1.stride = fun _ => 1) (y : SBlk.Idx) :
    ∃ p ∈ L, y ∈ p.1.set := by
  have y0 : (y 0).val < 1 := (y 0).isLt
  have y1 : (y 1).val < 11264 := (y 1).isLt
  have y2 : (y 2).val < 128 := (y 2).isLt
  by_cases hy : (y 1).val < 10240
  · obtain ⟨p, hp, ho, hs, ht⟩ := h ⟨(y 1).val % 8, Nat.mod_lt _ (by decide)⟩
    refine ⟨p, hp, ?_⟩
    rw [LoadRect.mem_set, ho, hs, ht]
    intro a
    match a with
    | ⟨0, _⟩ => exact ⟨0, Nat.one_pos, show (y 0).val = 0 + 1 * 0 by omega⟩
    | ⟨1, _⟩ => exact ⟨(y 1).val / 8, show (y 1).val / 8 < 1280 by omega, show (y 1).val = (y 1).val % 8 + 8 * ((y 1).val / 8) by omega⟩
    | ⟨2, _⟩ => exact ⟨(y 2).val, y2, show (y 2).val = 0 + 1 * (y 2).val by omega⟩
  · obtain ⟨p, hp, ho, hs, ht⟩ := hz
    refine ⟨p, hp, ?_⟩
    rw [LoadRect.mem_set, ho, hs, ht]
    intro a
    match a with
    | ⟨0, _⟩ => exact ⟨0, Nat.one_pos, show (y 0).val = 0 + 1 * 0 by omega⟩
    | ⟨1, _⟩ => exact ⟨(y 1).val - 10240, show (y 1).val - 10240 < 1024 by omega, show (y 1).val = 10240 + 1 * ((y 1).val - 10240) by omega⟩
    | ⟨2, _⟩ => exact ⟨(y 2).val, y2, show (y 2).val = 0 + 1 * (y 2).val by omega⟩

end Cert.FfnGeo

end
-- ==== Proof.FfnRef.lean ====
/- The expert feed-forward reference's operations in stages (the router's scores and gate, the hidden activations, the expert's
   output, the rows behind them), each at an index. -/
module

public import proofs.«01_k».proof.Proof.Gen.FfnRefIdeal.Run
public import proofs.«01_k».proof.Proof.AttnMath
public import Idealize.ShloMosaic.Lib.Pointwise
public import Idealize.ShloMosaic.Lib.Pipeline.ValueKit

@[expose] public section

set_option maxRecDepth 16384

noncomputable section

namespace Cert.FfnMath

open Idealize Idealize.ShloMosaic Cert.AttnMath

/-- One router probability: the softmax of the scores at expert `e`. -/
def gate (z : Fin 16 → EReal) (e : Fin 16) : EReal :=
  Ideal.div (Ideal.exp (z e - mx z)) (∑ n, Ideal.exp (z n - mx z))

/-- A gated activation. -/
def act (a b : EReal) : EReal := a * Ideal.logistic a * b

/-- A score masked to minus infinity has weight zero, whatever the maximum. -/
theorem exp_bot_sub (x : EReal) : Ideal.exp (⊥ - x) = 0 := by
  rw [EReal.bot_sub]; rfl

/-- The maximum over the lanes, the ones past the experts' masked. -/
theorem mx_masked (z : Fin 128 → EReal) :
    mx (fun l : Fin 128 => if (l : ℕ) < 16 then z l else ⊥) = mx fun n : Fin 16 => z (Fin.castLE (by decide) n) := by
  simp only [mx_eq_sup]
  apply le_antisymm
  · refine Finset.sup_le fun l _ => ?_
    split_ifs with h
    · exact Finset.le_sup (f := fun n : Fin 16 => z (Fin.castLE (by decide) n)) (Finset.mem_univ (⟨l, h⟩ : Fin 16))
    · exact bot_le
  · refine Finset.sup_le fun n _ => ?_
    have h := Finset.le_sup (f := fun l : Fin 128 => if (l : ℕ) < 16 then z l else ⊥) (Finset.mem_univ (Fin.castLE (by decide) n : Fin 128))
    have hn : ((Fin.castLE (by decide) n : Fin 128) : ℕ) < 16 := n.isLt
    simp only [hn, if_true] at h
    exact h

/-- The sum over the lanes of a function that vanishes past the experts'. -/
theorem sum_masked (f : Fin (16 + 112) → EReal) (h : ∀ l : Fin (16 + 112), ¬ (l : ℕ) < 16 → f l = 0) :
    (∑ l, f l) = ∑ n : Fin 16, f (Fin.castAdd 112 n) := by
  rw [Fin.sum_univ_add]
  rw [Finset.sum_eq_zero (s := Finset.univ) (f := fun i : Fin 112 => f (Fin.natAdd 16 i)) fun i _ => h _ (by simp)]
  exact add_zero _

/-- A sum that picks one lane. -/
theorem sum_pick {n : ℕ} (e : Fin n) (f : Fin n → EReal) : (∑ l, if l = e then f l else 0) = f e := by
  rw [Finset.sum_ite_eq' Finset.univ e f, if_pos (Finset.mem_univ e)]

/-- A selection by equality of a lane and an expert's number. -/
theorem select_lane (l : Fin 128) (e : Fin 16) (x y : EReal) :
    Scalar.select (IntOp.cmpi CmpIPredicate.eq (BitVec.ofNat 32 l) (BitVec.ofNat 32 e)) x y = if (l : ℕ) = e then x else y := by
  have h : ∀ (l : Fin 128) (e : Fin 16), IntOp.cmpi CmpIPredicate.eq (BitVec.ofNat 32 l) (BitVec.ofNat 32 e) = if (l : ℕ) = e then 1#1 else 0#1 := by decide +kernel
  rw [h l e]
  split_ifs <;> rfl

/-- A selection of the experts' lanes. -/
theorem select_experts (l : Fin 128) (x y : EReal) :
    Scalar.select (IntOp.cmpi CmpIPredicate.slt (BitVec.ofNat 32 l) 16#32) x y = if (l : ℕ) < 16 then x else y := by
  have h : ∀ l : Fin 128, IntOp.cmpi CmpIPredicate.slt (BitVec.ofNat 32 l) 16#32 = if (l : ℕ) < 16 then 1#1 else 0#1 := by decide +kernel
  rw [h l]
  split_ifs <;> rfl

/-- The gate as the lanes give it: the lanes past the experts' masked, the expert's own picked by a sum. -/
theorem gate_lanes (z : Fin 128 → EReal) (e : Fin 16) :
    (∑ l : Fin 128, Scalar.select (IntOp.cmpi CmpIPredicate.eq (BitVec.ofNat 32 l) (BitVec.ofNat 32 e))
      (Ideal.div
        (Ideal.exp (Scalar.select (IntOp.cmpi CmpIPredicate.slt (BitVec.ofNat 32 l) 16#32) (z l) ⊥
          - Finset.univ.fold max ⊥ fun i : Fin 128 => Scalar.select (IntOp.cmpi CmpIPredicate.slt (BitVec.ofNat 32 i) 16#32) (z i) ⊥))
        (∑ j : Fin 128, Ideal.exp (Scalar.select (IntOp.cmpi CmpIPredicate.slt (BitVec.ofNat 32 j) 16#32) (z j) ⊥
          - Finset.univ.fold max ⊥ fun i : Fin 128 => Scalar.select (IntOp.cmpi CmpIPredicate.slt (BitVec.ofNat 32 i) 16#32) (z i) ⊥)))
      0) = gate (fun n => z ⟨n, by omega⟩) e := by
  simp only [select_experts, select_lane]
  have hm : (Finset.univ.fold max ⊥ fun i : Fin 128 => if (i : ℕ) < 16 then z i else ⊥) = mx fun n : Fin 16 => z ⟨n, by omega⟩ := mx_masked z
  rw [hm]
  obtain ⟨M, hM⟩ : ∃ M, M = mx fun n : Fin 16 => z ⟨n, by omega⟩ := ⟨_, rfl⟩
  rw [← hM]
  have hs : (∑ j : Fin 128, Ideal.exp ((if (j : ℕ) < 16 then z j else ⊥) - M)) = ∑ n : Fin 16, Ideal.exp (z ⟨n, by omega⟩ - M) := by
    refine (sum_masked (fun j => Ideal.exp ((if (j : ℕ) < 16 then z j else ⊥) - M)) fun l hl => ?_).trans ?_
    · rw [if_neg hl, exp_bot_sub]
    · refine Finset.sum_congr rfl fun n _ => ?_
      have hn : ((Fin.castAdd 112 n : Fin 128) : ℕ) < 16 := n.isLt
      rw [if_pos hn]
      rfl
  rw [hs]
  refine Eq.trans (Finset.sum_congr rfl fun l _ => if_congr ?_ rfl rfl)
    (sum_pick (⟨e, by omega⟩ : Fin 128) fun l => Ideal.div (Ideal.exp ((if (l : ℕ) < 16 then z l else ⊥) - M))
      (∑ n : Fin 16, Ideal.exp (z ⟨n, by omega⟩ - M))) |>.trans ?_
  · rw [Fin.ext_iff]
  · rw [if_pos (show ((⟨e, by omega⟩ : Fin 128) : ℕ) < 16 from e.isLt), hM]
    rfl

end Cert.FfnMath

namespace Cert.FfnRefIdeal.Stage

open Idealize Idealize.ShloMosaic Idealize.SL.Sem Cert.FfnRefIdeal Cert.FfnRefIdeal.Gen Cert.FfnRefIdeal.Facts Cert.FfnRefIdeal.Value Cert.AttnMath Cert.FfnMath

section
variable {F : FTy → Type} [FloatOps F]

/-- The router's scores. -/
def score (x : FVec F S16x1280x1024 .f32) (wr : FVec F S1x1024x16 .f32) : FVec F S16x1280x16 .f32 :=
  Host.dotGeneral dot_S16x1280x1024_S1024x16_S16x1280x16_2_0_01_1_n_n none x (shapeCast _ wr shapeCasts_S1x1024x16_S1024x16)

/-- Each row's largest score. -/
def big (z : FVec F S16x1280x16 .f32) : FVec F S16x1280 .f32 :=
  maximumf (broadcastInDim S16x1280 ![] bcast_S_S16x1280 (constant S_ .f32 0xFF800000#32)) (Host.reduce FloatOps.maximumf z (constant S_ .f32 0xFF800000#32) reducesTo_S16x1280x16_S16x1280_d2 h_S_)

/-- The weights. -/
def wgt (z : FVec F S16x1280x16 .f32) : FVec F S16x1280x16 .f32 :=
  Host.exp (subf z (broadcastInDim S16x1280x16 ![0, 1, 2] bcast_S16x1280x1_S16x1280x16_0_1_2 (broadcastInDim S16x1280x1 ![0, 1] bcast_S16x1280_S16x1280x1_0_1 (big z))))

/-- The affinities. -/
def aff (z : FVec F S16x1280x16 .f32) : FVec F S16x1280x16 .f32 :=
  Host.divf (wgt z) (broadcastInDim S16x1280x16 ![0, 1, 2] bcast_S16x1280x1_S16x1280x16_0_1_2 (broadcastInDim S16x1280x1 ![0, 1] bcast_S16x1280_S16x1280x1_0_1 (Host.reduceAdd (wgt z) (constant S_ .f32 0x00000000#32) reducesTo_S16x1280x16_S16x1280_d2 h_S_)))

/-- Each expert's own affinity. -/
def own (a : FVec F S16x1280x16 .f32) : FVec F S16x1280 .f32 :=
  transpose S16x1280 [1, 0] (Host.reduceAdd (select (broadcastInDim S16x1280x16 ![0, 2] bcast_S16x16_S16x1280x16_0_2 (cmpi .eq (iotaInDim S16x16 32 0) (iotaInDim S16x16 32 1))) a (broadcastInDim S16x1280x16 ![] bcast_S_S16x1280x16 (constant S_ .f32 0x00000000#32))) (constant S_ .f32 0x00000000#32) reducesTo_S16x1280x16_S1280x16_d0 h_S_) transposes_S1280x16_S16x1280_1_0

/-- One projection into the hidden width. -/
def up (x : FVec F S16x1280x1024 .f32) (w : FVec F S1x16x1024x2816 .f32) : FVec F S16x1280x2816 .f32 :=
  Host.dotGeneral dot_S16x1280x1024_S16x1024x2816_S16x1280x2816_2_1_1_2_0_0 none x (shapeCast _ w shapeCasts_S1x16x1024x2816_S16x1024x2816)

/-- The hidden activations. -/
def hid (a b : FVec F S16x1280x2816 .f32) : FVec F S16x1280x2816 .f32 :=
  mulf (mulf a (Host.divf (broadcastInDim S16x1280x2816 ![] bcast_S_S16x1280x2816 (constant S_ .f32 0x3F800000#32)) (addf (broadcastInDim S16x1280x2816 ![] bcast_S_S16x1280x2816 (constant S_ .f32 0x3F800000#32)) (Host.exp (Host.negf a))))) b

/-- The expert's output, weighted. -/
def wtd (h : FVec F S16x1280x2816 .f32) (w : FVec F S1x16x2816x1024 .f32) (g : FVec F S16x1280 .f32) : FVec F S16x1280x1024 .f32 :=
  mulf (Host.dotGeneral dot_S16x1280x2816_S16x2816x1024_S16x1280x1024_2_1_1_2_0_0 none h (shapeCast _ w shapeCasts_S1x16x2816x1024_S16x2816x1024)) (broadcastInDim S16x1280x1024 ![0, 1, 2] bcast_S16x1280x1_S16x1280x1024_0_1_2 (broadcastInDim S16x1280x1 ![0, 1] bcast_S16x1280_S16x1280x1_0_1 g))

/-- The result: the rows, 128 rows of zeros behind each expert's, cut in pieces of 128 lanes. -/
def res (y : FVec F S16x1280x1024 .f32) : FVec F S16x11264x128 .f32 :=
  shapeCast _ (pad S16x1408x1024 ![0, 0, 0] ![0, 128, 0] ![0, 0, 0] y (sitofp .f32 (constantI S_ 32 0#32)) pads_S16x1280x1024_S16x1408x1024_000_01280_000 h_S_) shapeCasts_S16x1408x1024_S16x11264x128

end

/-- A score. -/
theorem score_at (x : FVec Ideal S16x1280x1024 .f32) (wr : FVec Ideal S1x1024x16 .f32) (e : Fin 16) (s : Fin 1280) (n : Fin 16) :
    score x wr (ix3 e s n) = ∑ d, x (ix3 e s d) * wr (ix3 0 d n) := by
  pointwise [score]

theorem big_at (z : FVec Ideal S16x1280x16 .f32) (e : Fin 16) (s : Fin 1280) : big z (ix2 e s) = mx fun n => z (ix3 e s n) := by
  pointwise [big]
  rw [ofBits_neg_inf]
  exact max_eq_right bot_le

theorem wgt_at (z : FVec Ideal S16x1280x16 .f32) (e : Fin 16) (s : Fin 1280) (n : Fin 16) :
    wgt z (ix3 e s n) = Ideal.exp (z (ix3 e s n) - mx fun n => z (ix3 e s n)) := by
  pointwise [wgt, big_at]

theorem aff_at (z : FVec Ideal S16x1280x16 .f32) (e : Fin 16) (s : Fin 1280) (n : Fin 16) :
    aff z (ix3 e s n) = gate (fun n => z (ix3 e s n)) n := by
  pointwise [aff, wgt_at]
  rfl

theorem own_at (a : FVec Ideal S16x1280x16 .f32) (e : Fin 16) (s : Fin 1280) : own a (ix2 e s) = a (ix3 e s e) := by
  pointwise [own]
  refine Eq.trans (Finset.sum_congr rfl fun x _ => ?_) (sum_pick e fun x => a (ix3 x s e))
  exact (select_lane ⟨x, by omega⟩ e _ _).trans <| if_congr (by rw [Fin.ext_iff]) rfl rfl

theorem up_at (x : FVec Ideal S16x1280x1024 .f32) (w : FVec Ideal S1x16x1024x2816 .f32) (e : Fin 16) (s : Fin 1280) (n : Fin 2816) :
    up x w (ix3 e s n) = ∑ d, x (ix3 e s d) * w (ix4 0 e d n) := by
  pointwise [up]

theorem hid_at (a b : FVec Ideal S16x1280x2816 .f32) (e : Fin 16) (s : Fin 1280) (n : Fin 2816) :
    hid a b (ix3 e s n) = act (a (ix3 e s n)) (b (ix3 e s n)) := by
  pointwise [hid]
  rfl

theorem wtd_at (h : FVec Ideal S16x1280x2816 .f32) (w : FVec Ideal S1x16x2816x1024 .f32) (g : FVec Ideal S16x1280 .f32) (e : Fin 16) (s : Fin 1280) (d : Fin 1024) :
    wtd h w g (ix3 e s d) = (∑ n, h (ix3 e s n) * w (ix4 0 e n d)) * g (ix2 e s) := by
  pointwise [wtd]

/-- A result row that holds lanes of a token's output. -/
theorem res_at (y : FVec Ideal S16x1280x1024 .f32) (e : Fin 16) (r : Fin 11264) (l : Fin 128) (h : (r : ℕ) < 10240) :
    res y (ix3 e r l) = y (ix3 e ⟨r / 8, by omega⟩ ⟨r % 8 * 128 + l, by omega⟩) := by
  pointwise [res]
  rw [dif_pos (by omega)]

/-- A result row behind an expert's tokens. -/
theorem res_zero (y : FVec Ideal S16x1280x1024 .f32) (e : Fin 16) (r : Fin 11264) (l : Fin 128) (h : ¬ (r : ℕ) < 10240) :
    res y (ix3 e r l) = 0 := by
  pointwise [res]
  rw [dif_neg (by omega)]
  show (((0#32 : BitVec 32).toInt : ℝ) : EReal) = 0
  simp

end Cert.FfnRefIdeal.Stage

end
-- ==== Proof.FfnIdealRuns.lean ====
/- What the three runs of the expert feed-forward body (`Cert.FfnIdeal`) share: its branch conditions in closed form over the
   grid, where the output window is idle, and the names of its buffers. -/
module

public import proofs.«01_k».proof.Proof.Gen.FfnIdeal.Frame
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FfnIdeal.Body

open Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 48 = 0)

/-- The condition of the body's `scf.if` 1 (`k0_h2`), from the grid coordinates (the skeleton's scalar
    chain substituted). -/
abbrev cond0_1 (i : grid0.Coords) : Prop := (Scalar.cmpi .ne (Scalar.extui (Scalar.cmpi .slt (Scalar.addi (Scalar.muli (BitVec.ofNat 32 (i 1).val) 4#32) 3#32) 11#32)) 0#32) = 1#1
/-- It holds at the points whose coordinates have i1 ≤ 1 — decided over the grid. -/
theorem hcond0_1 : ∀ t : Fin cfg0.N, cond0_1 (grid0.coords t) ↔ t.val % 3 ≤ 1 :=
  (by decide +kernel : ∀ t : Fin grid0.N, cond0_1 (grid0.coords t) ↔ t.val % 3 ≤ 1)

/-- The condition of the body's `scf.if` 2 (`k0_h3`), from the grid coordinates (the skeleton's scalar
    chain substituted). -/
abbrev cond0_2 (i : grid0.Coords) : Prop := k0_cond3 i = 1#1
/-- It holds at the points ≡ 2 (mod 3) — by arithmetic of the point. -/
theorem hcond0_2 : ∀ t : Fin cfg0.N, cond0_2 (grid0.coords t) ↔ t.val % 3 = 2 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [cond0_2, k0_cond3, e0, e1]
    word_cmp
   : ∀ t : Fin grid0.N, cond0_2 (grid0.coords t) ↔ t.val % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- At the points of case A the printed configuration (`Cfg.idle`) calls output 14 idle: the case stores nothing into it. -/
theorem idleAt0_14_A : ∀ t : Fin cfg0.N, cond0_0 (grid0.coords t) → cond0_1 (grid0.coords t) → ¬cond0_2 (grid0.coords t) → cfg0.idle 14 (grid0.coords t) = true := by decide +kernel
/-- At the points of case A the pipeline does not write output 14's block back. -/
theorem noFlush0_14_A : ∀ t : Fin cfg0.N, cond0_0 (grid0.coords t) → cond0_1 (grid0.coords t) → ¬cond0_2 (grid0.coords t) → (cfg0.win 14).flush t = false := by decide +kernel
/-- At the points of case B the printed configuration (`Cfg.idle`) calls output 14 idle: the case stores nothing into it. -/
theorem idleAt0_14_B : ∀ t : Fin cfg0.N, ¬cond0_0 (grid0.coords t) → cond0_1 (grid0.coords t) → ¬cond0_2 (grid0.coords t) → cfg0.idle 14 (grid0.coords t) = true := by decide +kernel
/-- At the points of case B the pipeline does not write output 14's block back. -/
theorem noFlush0_14_B : ∀ t : Fin cfg0.N, ¬cond0_0 (grid0.coords t) → cond0_1 (grid0.coords t) → ¬cond0_2 (grid0.coords t) → (cfg0.win 14).flush t = false := by decide +kernel
/-- At the points of case C the printed configuration (`Cfg.idle`) calls output 14 live: the case stores into it. -/
theorem liveAt0_14_C : ∀ t : Fin cfg0.N, ¬cond0_0 (grid0.coords t) → ¬cond0_1 (grid0.coords t) → cond0_2 (grid0.coords t) → cfg0.idle 14 (grid0.coords t) = false := by decide +kernel

/-! ## The kernel body on any staging memrefs: a subtype the run finds -/

/-- One staging buffer of output window 14, through which its contents are stated (`View.read_writes_of_cover`: the
    choice does not matter). -/
abbrev VO0_14 : View sig .tc .vmem S1x11264x128 .f32 := (Memref.whole cc0_stg14_0 : Memref sig .tc .vmem S1x11264x128 .f32).view
/-- Each window's current staging memref at point `t`, spelled as the pipeline passes it (`bodyAt0`), and its wholeness. -/
abbrev ms0_0 (t : Fin cfg0.N) : Memref sig .tc .vmem S1x1280x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1024x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1024x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x256x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x1024x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1024x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x256x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x11264x128 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S1280x1024 .f32 := Memref.whole cc0_scratch0
/-- The scratch `arg17` the kernel carries between points, as a view: what it holds is stated through it. -/
abbrev VS0_0 : View sig .tc .vmem S1280x1024 .f32 := scM0_0.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.FfnIdeal.Body

end
-- ==== Proof.FfnIdealRunA.lean ====
/- The run of the expert feed-forward body (`Cert.FfnIdeal`) in case A of its branches. -/
module

public import proofs.«01_k».proof.Proof.FfnIdealRuns

@[expose] public section

set_option maxRecDepth 16384

noncomputable section

namespace Cert.FfnIdeal.Body

open Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0), WITH the
    proof that on whole staging memrefs — the inputs' at their contents, the outputs it leaves idle (14: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : cond0_0 i) (hc1 : cond0_1 i) (hc2 : ¬cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) :
    Σ' (L14 : List (View.Piece (Elt F) S1x11264x128 .f32)), { LS0 : List (View.Piece (Elt F) S1280x1024 .f32) //
      ∀ (xi14 : Vec F S1x11264x128 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ (∃ f, arg17.view.loc (c : Thread nD τ) ↦[arg17.view.set]{fullShare} arg17.view.writes (Elt F) f LS0)) -∗ K ⟨⟩))
          ⊢ wp frame (wpE (defs₀ (F := F)) Variants.none c none) E (cc0_expert_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, fun xi14 E K => ?run⟩
  case run =>
    simp only [cc0_expert_ffn_eq_skeleton]; unfold cc0_expert_ffn_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    iexists _; iexact HS0

end Cert.FfnIdeal.Body

end
-- ==== Proof.FfnIdealRunB.lean ====
/- The run of the expert feed-forward body (`Cert.FfnIdeal`) in case B of its branches. -/
module

public import proofs.«01_k».proof.Proof.FfnIdealRunA

@[expose] public section

set_option maxRecDepth 16384

noncomputable section

namespace Cert.FfnIdeal.Body

open Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 3, … 46: 31 of 48), WITH the
    proof that on whole staging memrefs — the inputs' at their contents, the outputs it leaves idle (14: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : ¬cond0_0 i) (hc1 : cond0_1 i) (hc2 : ¬cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) (xs0 : Vec F S1280x1024 .f32) :
    Σ' (L14 : List (View.Piece (Elt F) S1x11264x128 .f32)), { LS0 : List (View.Piece (Elt F) S1280x1024 .f32) //
      ∀ (xi14 : Vec F S1x11264x128 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ (∃ f, arg17.view.loc (c : Thread nD τ) ↦[arg17.view.set]{fullShare} arg17.view.writes (Elt F) f LS0)) -∗ K ⟨⟩))
          ⊢ wp frame (wpE (defs₀ (F := F)) Variants.none c none) E (cc0_expert_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], ?_, fun xi14 E K => ?run⟩
  case run =>
    simp only [cc0_expert_ffn_eq_skeleton]; unfold cc0_expert_ffn_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    iexists _; iexact HS0

end Cert.FfnIdeal.Body

end
-- ==== Proof.FfnIdealRunC.lean ====
/- The run of the expert feed-forward body (`Cert.FfnIdeal`) in case C of its branches. -/
module

public import proofs.«01_k».proof.Proof.FfnIdealRunB

@[expose] public section

set_option maxRecDepth 16384

noncomputable section

namespace Cert.FfnIdeal.Body

open Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 2, 5, … 47: 16 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : ¬cond0_0 i) (hc1 : ¬cond0_1 i) (hc2 : cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) (xs0 : Vec F S1280x1024 .f32) :
    Σ' (L14 : List (View.Piece (Elt F) S1x11264x128 .f32)), { LS0 : List (View.Piece (Elt F) S1280x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0)) -∗ K ⟨⟩))
          ⊢ wp frame (wpE (defs₀ (F := F)) Variants.none c none) E (cc0_expert_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_expert_ffn_eq_skeleton]; unfold cc0_expert_ffn_skel
    simp only [k0_part2_eq_skeleton, k0_part3_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    iexists _; iexact HS0

end Cert.FfnIdeal.Body

end
-- ==== Proof.FfnIdealBody.lean ====
/- The frame of the expert feed-forward program (`Cert.FfnIdeal`): what its buffers hold after each grid point, by the runs of
   its three cases, and the frame read off the pipeline's run. -/
module

public import proofs.«01_k».proof.Proof.FfnIdealRunC
public import proofs.«01_k».proof.Proof.FfnGeo
public import Idealize.ShloMosaic.Lib.Claim

@[expose] public section

set_option maxRecDepth 16384

noncomputable section

namespace Cert.FfnIdeal.Body

open Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
/-- Case A stores nothing into output 14 (the window is idle at its points and not written back there):
    no pieces — a placeholder (junk read back) that nothing consults, since at these points the window is neither
    written back nor read at the next point (Lib/Pipeline.lean "Idle points"). -/
def out0_A_14 (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : cond0_0 i) (hc1 : cond0_1 i) (hc2 : ¬cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) : Vec F S1x11264x128 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13).1)

/-- Case A's pieces for scratch `arg17`, which the kernel carries between points, cover it: 5 pieces of `S1280x1024` tiling it (Lib/Ring.lean `Piece.tiledL`). -/
theorem scover0_A_0 (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : cond0_0 i) (hc1 : cond0_1 i) (hc2 : ¬cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) (y : S1280x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13).2.1 S1280x1024.size (by sl_kernel_rfl) y

/-- What case A leaves in scratch `arg17`: its pieces read back over junk. -/
def sout0_A_0 (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : cond0_0 i) (hc1 : cond0_1 i) (hc2 : ¬cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) : Vec F S1280x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13).2.1)

/-- Case B stores nothing into output 14 (the window is idle at its points and not written back there):
    no pieces — a placeholder (junk read back) that nothing consults, since at these points the window is neither
    written back nor read at the next point (Lib/Pipeline.lean "Idle points"). -/
def out0_B_14 (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : ¬cond0_0 i) (hc1 : cond0_1 i) (hc2 : ¬cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) (xs0 : Vec F S1280x1024 .f32) : Vec F S1x11264x128 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0).1)

/-- Case B's pieces for scratch `arg17`, which the kernel carries between points, cover it: 4 pieces of `S1280x1024` tiling it (Lib/Ring.lean `Piece.tiledL`). -/
theorem scover0_B_0 (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : ¬cond0_0 i) (hc1 : cond0_1 i) (hc2 : ¬cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) (xs0 : Vec F S1280x1024 .f32) (y : S1280x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0).2.1 S1280x1024.size (by sl_kernel_rfl) y

/-- What case B leaves in scratch `arg17`: its pieces read back over junk. -/
def sout0_B_0 (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : ¬cond0_0 i) (hc1 : cond0_1 i) (hc2 : ¬cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) (xs0 : Vec F S1280x1024 .f32) : Vec F S1280x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0).2.1)

/-- Case C's pieces for output 14 are of SEVERAL sizes (9 stores of `S1x1024x128`, `S1x1280x128`): cut into blocks of `![1, 256, 128]` they tile its block (checked by the kernel's evaluation: Lib/Ring.lean `Piece.tiledBy`), so they cover it. -/
theorem cover0_C_14 (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : ¬cond0_0 i) (hc1 : ¬cond0_1 i) (hc2 : cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) (xs0 : Vec F S1280x1024 .f32) (y : S1x11264x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0).1, y ∈ pc.1.set :=
  Cert.FfnGeo.cover (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0).1
    (fun j => match j with
      | ⟨0, _⟩ => ⟨_, List.mem_of_getElem? (i := 8) rfl, rfl, rfl, rfl⟩
      | ⟨1, _⟩ => ⟨_, List.mem_of_getElem? (i := 7) rfl, rfl, rfl, rfl⟩
      | ⟨2, _⟩ => ⟨_, List.mem_of_getElem? (i := 6) rfl, rfl, rfl, rfl⟩
      | ⟨3, _⟩ => ⟨_, List.mem_of_getElem? (i := 5) rfl, rfl, rfl, rfl⟩
      | ⟨4, _⟩ => ⟨_, List.mem_of_getElem? (i := 4) rfl, rfl, rfl, rfl⟩
      | ⟨5, _⟩ => ⟨_, List.mem_of_getElem? (i := 3) rfl, rfl, rfl, rfl⟩
      | ⟨6, _⟩ => ⟨_, List.mem_of_getElem? (i := 2) rfl, rfl, rfl, rfl⟩
      | ⟨7, _⟩ => ⟨_, List.mem_of_getElem? (i := 1) rfl, rfl, rfl, rfl⟩)
    ⟨_, List.mem_of_getElem? (i := 0) rfl, rfl, rfl, rfl⟩ y

/-- What case C leaves in output 14's staging buffer: its pieces read back over junk. -/
def out0_C_14 (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : ¬cond0_0 i) (hc1 : ¬cond0_1 i) (hc2 : cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) (xs0 : Vec F S1280x1024 .f32) : Vec F S1x11264x128 .f32 :=
  VO0_14.read (Elt F) (VO0_14.writes (Elt F) VO0_14.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0).1)

/-- Case C's pieces for scratch `arg17`, which the kernel carries between points, cover it: 3 pieces of `S1280x1024` tiling it (Lib/Ring.lean `Piece.tiledL`). -/
theorem scover0_C_0 (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : ¬cond0_0 i) (hc1 : ¬cond0_1 i) (hc2 : cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) (xs0 : Vec F S1280x1024 .f32) (y : S1280x1024.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0).2.1 S1280x1024.size (by sl_kernel_rfl) y

/-- What case C leaves in scratch `arg17`: its pieces read back over junk. -/
def sout0_C_0 (c : Dev nD) (i : grid0.Coords) (arg2 : Memref sig .tc .vmem S1x1280x1024 .bf16) (harg2 : arg2.IsWhole) (arg3 : Memref sig .tc .vmem S1024x128 .bf16) (harg3 : arg3.IsWhole) (arg4 : Memref sig .tc .vmem S1x1x1024x256 .f32) (harg4 : arg4.IsWhole) (arg5 : Memref sig .tc .vmem S1x1x1024x256 .f32) (harg5 : arg5.IsWhole) (arg6 : Memref sig .tc .vmem S1x1x256x1024 .f32) (harg6 : arg6.IsWhole) (arg7 : Memref sig .tc .vmem S1x1x1024x256 .f32) (harg7 : arg7.IsWhole) (arg8 : Memref sig .tc .vmem S1x1x1024x256 .f32) (harg8 : arg8.IsWhole) (arg9 : Memref sig .tc .vmem S1x1x256x1024 .f32) (harg9 : arg9.IsWhole) (arg10 : Memref sig .tc .vmem S1x1x1024x256 .f32) (harg10 : arg10.IsWhole) (arg11 : Memref sig .tc .vmem S1x1x1024x256 .f32) (harg11 : arg11.IsWhole) (arg12 : Memref sig .tc .vmem S1x1x256x1024 .f32) (harg12 : arg12.IsWhole) (arg13 : Memref sig .tc .vmem S1x1x1024x256 .f32) (harg13 : arg13.IsWhole) (arg14 : Memref sig .tc .vmem S1x1x1024x256 .f32) (harg14 : arg14.IsWhole) (arg15 : Memref sig .tc .vmem S1x1x256x1024 .f32) (harg15 : arg15.IsWhole) (arg16 : Memref sig .tc .vmem S1x11264x128 .f32) (harg16 : arg16.IsWhole) (arg17 : Memref sig .tc .vmem S1280x1024 .f32) (harg17 : arg17.IsWhole) (hc0 : ¬cond0_0 i) (hc1 : ¬cond0_1 i) (hc2 : cond0_2 i)
    (x0 : Vec F S1x1280x1024 .bf16) (x1 : Vec F S1024x128 .bf16) (x2 : Vec F S1x1x1024x256 .f32) (x3 : Vec F S1x1x1024x256 .f32) (x4 : Vec F S1x1x256x1024 .f32) (x5 : Vec F S1x1x1024x256 .f32) (x6 : Vec F S1x1x1024x256 .f32) (x7 : Vec F S1x1x256x1024 .f32) (x8 : Vec F S1x1x1024x256 .f32) (x9 : Vec F S1x1x1024x256 .f32) (x10 : Vec F S1x1x256x1024 .f32) (x11 : Vec F S1x1x1024x256 .f32) (x12 : Vec F S1x1x1024x256 .f32) (x13 : Vec F S1x1x256x1024 .f32) (xs0 : Vec F S1280x1024 .f32) : Vec F S1280x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 x11 x12 x13 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x11264x128 .f32 × Vec F S1280x1024 .f32
  | 0, hn => (out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩))
  | n + 1, hn =>
    if h0 : (n + 1) % 48 = 0 then
      if h1 : (n + 1) % 3 ≤ 1 then
        if h2 : (n + 1) % 3 = 2 then
          False.elim (by have hN : n + 1 < 48 := lt_of_lt_of_eq hn (show cfg0.N = 48 from N_0); omega)
        else
          (out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩))
      else
        False.elim (by have hN : n + 1 < 48 := lt_of_lt_of_eq hn (show cfg0.N = 48 from N_0); omega)
    else
      if h1 : (n + 1) % 3 ≤ 1 then
        if h2 : (n + 1) % 3 = 2 then
          False.elim (by have hN : n + 1 < 48 := lt_of_lt_of_eq hn (show cfg0.N = 48 from N_0); omega)
        else
          (out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2)
      else
        if h2 : (n + 1) % 3 = 2 then
          (out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (outsAt0 c n (Nat.lt_of_succ_lt hn)).2)
        else
          False.elim (by have hN : n + 1 < 48 := lt_of_lt_of_eq hn (show cfg0.N = 48 from N_0); omega)

/-- `outsAt0` at a point of case A: that case's contents. -/
theorem outsAt0_A (c : Dev nD) (t : Fin cfg0.N) (h0 : t.val % 48 = 0) (h1 : t.val % 3 ≤ 1) (h2 : ¬t.val % 3 = 2) :
    outsAt0 m c t.val t.isLt = (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 48 = 0) (h1 : t.val % 3 ≤ 1) (h2 : ¬t.val % 3 = 2) :
    outsAt0 m c t.val t.isLt = (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 48 = 0) (h1 : ¬t.val % 3 ≤ 1) (h2 : t.val % 3 = 2) :
    outsAt0 m c t.val t.isLt = (out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl]
  rw [show (dats m 0 c).Φ t.succ = PhiS m c (t.val + 1) t.isLt from rfl, PhiS_succ]
  have hN : t.val < 48 := lt_of_lt_of_eq t.isLt (show cfg0.N = 48 from N_0)
  by_cases h0 : t.val % 48 = 0
  · by_cases h1 : t.val % 3 ≤ 1
    · by_cases h2 : t.val % 3 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [Dat.leavesExact_idle (dats m 0 c) 14 t (idleAt0_14_A t ((hcond0_0 t).mpr h0) ((hcond0_1 t).mpr h1) (fun h => h2 ((hcond0_2 t).mp h))) (noFlush0_14_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [outsAt0_A m c t h0 h1 h2]
          unfold sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [HS0]; · iexact HS0
          iintro ⟨H0, H1, H2, H3, H4, H5, H6, H7, H8, H9, H10, H11, H12, H13, H14, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexists _; iexact H14
        · exfalso; have hN : t.val < 48 := lt_of_lt_of_eq t.isLt (show cfg0.N = 48 from N_0); omega
    · exfalso; omega
  · by_cases h1 : t.val % 3 ≤ 1
    · by_cases h2 : t.val % 3 = 2
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [Dat.leavesExact_idle (dats m 0 c) 14 t (idleAt0_14_B t (fun h => h0 ((hcond0_0 t).mp h)) ((hcond0_1 t).mpr h1) (fun h => h2 ((hcond0_2 t).mp h))) (noFlush0_14_B t (fun h => h0 ((hcond0_0 t).mp h)) ((hcond0_1 t).mpr h1) (fun h => h2 ((hcond0_2 t).mp h)))]
        by_cases hz : t.val = 0
        · exfalso; have hN : t.val < 48 := lt_of_lt_of_eq t.isLt (show cfg0.N = 48 from N_0); omega
        · rw [PhiS_castSucc m c t, PhiS_pos m c _ _ hz]
          rw [outsAt0_B m c t h0 h1 h2]
          unfold sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [HS0]; · iexact HS0
          iintro ⟨H0, H1, H2, H3, H4, H5, H6, H7, H8, H9, H10, H11, H12, H13, H14, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          iexists _; iexact H14
    · by_cases h2 : t.val % 3 = 2
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14_C t (fun h => h0 ((hcond0_0 t).mp h)) (fun h => h1 ((hcond0_1 t).mp h)) ((hcond0_2 t).mpr h2)], after0_14]
        by_cases hz : t.val = 0
        · exfalso; have hN : t.val < 48 := lt_of_lt_of_eq t.isLt (show cfg0.N = 48 from N_0); omega
        · rw [PhiS_castSucc m c t, PhiS_pos m c _ _ hz]
          rw [outsAt0_C m c t h0 h1 h2]
          unfold out0_C_14 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexists _; iexact H14
          isplitl [HS0]; · iexact HS0
          iintro ⟨H0, H1, H2, H3, H4, H5, H6, H7, H8, H9, H10, H11, H12, H13, ⟨%e14, H14⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_FfnIdeal`'s statement (Defs.lean) at any `F` — Proof.lean cites it at `Bits`:
    `theorem Cert.Proof.claim : Cert.Claim := ⟨Cert.FfnIdeal.Gen.facts, fun m ρ _ => Cert.FfnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.FfnIdeal.Body

end
-- ==== Proof.FfnPay.lean ====
/- The expert feed-forward kernel's payloads at an index: a tile's part of the down projection, the router's gate, the pieces
   stored. -/
module

public import proofs.«01_k».proof.Proof.FfnRef
public import proofs.«01_k».proof.Proof.FfnIdealBody
public import Idealize.ShloMosaic.Lib.Claim
public import Idealize.ShloMosaic.Lib.Pointwise
public import Idealize.ShloMosaic.Lib.Pipeline.ValueKit

@[expose] public section

set_option maxRecDepth 16384

noncomputable section

namespace Cert.FfnIdeal.Final

open Idealize Idealize.ShloMosaic Idealize.SL.Sem Cert.FfnIdeal Cert.FfnIdeal.Gen Cert.FfnIdeal.Body Cert.FfnMath Cert.AttnMath

/-- The mask is minus infinity. -/
theorem mask_eq : (Named.named κ "mask" 0xF149F2CA#32 : Ideal FTy.f32) = ⊥ := rfl

/-- The accumulator is taken as zero at an expert's first step. -/
theorem select_first (f : Fin 3) (x y : EReal) :
    Scalar.select (Scalar.cmpi CmpIPredicate.eq (BitVec.ofNat 32 f) 0#32) x y = if (f : ℕ) = 0 then x else y := by
  have h : ∀ f : Fin 3, Scalar.cmpi CmpIPredicate.eq (BitVec.ofNat 32 f) 0#32 = if (f : ℕ) = 0 then 1#1 else 0#1 := by decide +kernel
  rw [h f]
  split_ifs <;> rfl

/-- One tile's part: its hidden lanes, gated, times its rows of the down projection. -/
def part (x : FVec Ideal S1280x1024 .bf16) (wg wu : Vec Ideal S1x1x1024x256 .f32) (wd : Vec Ideal S1x1x256x1024 .f32) (s : Fin 1280) (d : Fin 1024) : EReal :=
  ∑ l : Fin 256, act (∑ k, x (ix2 s k) * wg (ix4 0 0 k l)) (∑ k, x (ix2 s k) * wu (ix4 0 0 k l)) * wd (ix4 0 0 l d)

theorem pay17_at (x : FVec Ideal S1280x1024 .bf16) (wg wu : Vec Ideal S1x1x1024x256 .f32) (wd : Vec Ideal S1x1x256x1024 .f32) (a : Vec Ideal S1280x1024 .f32)
    (s : Fin 1280) (d : Fin 1024) : k0_pay17 x wg wu wd a (ix2 s d) = a (ix2 s d) + part x wg wu wd s d := by
  pointwise [k0_pay17]
  rfl

theorem pay2_at (x : FVec Ideal S1280x1024 .bf16) (wg wu : Vec Ideal S1x1x1024x256 .f32) (wd : Vec Ideal S1x1x256x1024 .f32) (a : Vec Ideal S1280x1024 .f32)
    (s : Fin 1280) (d : Fin 1024) : k0_pay2 x wg wu wd a (ix2 s d) = a (ix2 s d) + part x wg wu wd s d := by
  pointwise [k0_pay2]
  rfl

theorem pay1_at (x : FVec Ideal S1280x1024 .bf16) (wg wu : Vec Ideal S1x1x1024x256 .f32) (wd : Vec Ideal S1x1x256x1024 .f32) (a : Vec Ideal S1280x1024 .f32)
    (s : Fin 1280) (d : Fin 1024) :
    k0_pay1 x (k0_pay18 x wg) (k0_pay19 wu) (constant S1280x256 .f32 0x00000000#32) wd a (ix2 s d) = a (ix2 s d) + part x wg wu wd s d := by
  pointwise [k0_pay1, k0_pay18, k0_pay19]
  rfl

theorem pay15_at (i : grid0.Coords) (x : Vec Ideal S1x1280x1024 .bf16) (wg wu : Vec Ideal S1x1x1024x256 .f32) (wd : Vec Ideal S1x1x256x1024 .f32) (a : Vec Ideal S1280x1024 .f32)
    (s : Fin 1280) (d : Fin 1024) :
    k0_pay16 (k0_pay15 i x wg wu wd a) (ix2 s d) = (if (i 1 : ℕ) = 0 then 0 else a (ix2 s d)) + part (k0_pay13 x) wg wu wd s d := by
  pointwise [k0_pay16, k0_pay15]
  refine congrArg (fun v : EReal => v + part (k0_pay13 x) wg wu wd s d) ?_
  exact select_first (i 1) _ _

theorem pay13_at (x : Vec Ideal S1x1280x1024 .bf16) (s : Fin 1280) (d : Fin 1024) : k0_pay13 x (ix2 s d) = x (ix3 0 s d) := by
  pointwise [k0_pay13]

theorem pay9_at (e : Fin 16) (x : FVec Ideal S1280x1024 .bf16) (a : Vec Ideal S1280x1024 .f32) (wr : Vec Ideal S1024x128 .bf16)
    (s : Fin 1280) (d : Fin 1024) :
    k0_pay9 (BitVec.ofNat 32 e) x a wr (ix2 s d) = a (ix2 s d) * gate (fun n => ∑ k, x (ix2 s k) * wr (ix2 k ⟨n, by omega⟩)) e := by
  pointwise [k0_pay9]
  refine congrArg (fun v : EReal => a (ix2 s d) * v) ?_
  rw [mask_eq, ofBits_neg_inf]
  exact gate_lanes (fun l => ∑ k, x (ix2 s k) * wr (ix2 k l)) e

end Cert.FfnIdeal.Final

end
-- ==== Proof.FfnAcc.lean ====
/- The expert feed-forward kernel's accumulator after each grid point. -/
module

public import proofs.«01_k».proof.Proof.FfnPay
public import Idealize.ShloMosaic.Lib.Pipeline.ReadBack

@[expose] public section

set_option maxRecDepth 16384

noncomputable section

namespace Cert.FfnIdeal.Final

open Idealize Idealize.ShloMosaic Idealize.SL.Sem Cert.FfnIdeal Cert.FfnIdeal.Gen Cert.FfnIdeal.Body Cert.FfnMath Cert.AttnMath

variable (m : (ℓ : Loc nD τ sig) → Buf (Elt Ideal) ℓ)

/-- The first and second tiles' parts at a point. -/
def tile0 (c : Dev nD) (t : Fin cfg0.N) (s : Fin 1280) (d : Fin 1024) : EReal :=
  part (k0_pay13 (iblk m c 0 t : Vec Ideal S1x1280x1024 .bf16)) (iblk m c 2 t : Vec Ideal S1x1x1024x256 .f32) (iblk m c 3 t : Vec Ideal S1x1x1024x256 .f32)
    (iblk m c 4 t : Vec Ideal S1x1x256x1024 .f32) s d

def tile1 (c : Dev nD) (t : Fin cfg0.N) (s : Fin 1280) (d : Fin 1024) : EReal :=
  part (k0_pay13 (iblk m c 0 t : Vec Ideal S1x1280x1024 .bf16)) (iblk m c 5 t : Vec Ideal S1x1x1024x256 .f32) (iblk m c 6 t : Vec Ideal S1x1x1024x256 .f32)
    (iblk m c 7 t : Vec Ideal S1x1x256x1024 .f32) s d

/-- The third and fourth tiles' parts at a point. -/
def tile2 (c : Dev nD) (t : Fin cfg0.N) (s : Fin 1280) (d : Fin 1024) : EReal :=
  part (k0_pay13 (iblk m c 0 t : Vec Ideal S1x1280x1024 .bf16)) (iblk m c 8 t : Vec Ideal S1x1x1024x256 .f32) (iblk m c 9 t : Vec Ideal S1x1x1024x256 .f32)
    (iblk m c 10 t : Vec Ideal S1x1x256x1024 .f32) s d

def tile3 (c : Dev nD) (t : Fin cfg0.N) (s : Fin 1280) (d : Fin 1024) : EReal :=
  part (k0_pay13 (iblk m c 0 t : Vec Ideal S1x1280x1024 .bf16)) (iblk m c 11 t : Vec Ideal S1x1x1024x256 .f32) (iblk m c 12 t : Vec Ideal S1x1x1024x256 .f32)
    (iblk m c 13 t : Vec Ideal S1x1x256x1024 .f32) s d

theorem acc_A (c : Dev nD) (t : Fin cfg0.N) (h0 : t.val % 48 = 0) (h1 : t.val % 3 ≤ 1) (h2 : ¬t.val % 3 = 2) (s : Fin 1280) (d : Fin 1024) :
    (outsAt0 m c t.val t.isLt).2 (ix2 s d) = 0 + tile0 m c t s d + tile1 m c t s d + tile2 m c t s d + tile3 m c t s d := by
  rw [outsAt0_A m c t h0 h1 h2]
  frame_out
  rw [pay2_at, pay1_at, pay17_at, pay15_at]
  have hz : (k0_pay14 (F := Ideal) : FVec Ideal S1280x1024 .f32) (ix2 s d) = 0 := by pointwise [k0_pay14]
  rw [show (if (grid0.coords t 1 : ℕ) = 0 then (0 : EReal) else (k0_pay14 (F := Ideal) : FVec Ideal S1280x1024 .f32) (ix2 s d)) = 0 by rw [hz]; split_ifs <;> rfl]
  rfl

theorem acc_B (c : Dev nD) (t : Fin cfg0.N) (h0 : ¬t.val % 48 = 0) (h1 : t.val % 3 ≤ 1) (h2 : ¬t.val % 3 = 2) (s : Fin 1280) (d : Fin 1024) :
    (outsAt0 m c t.val t.isLt).2 (ix2 s d) = (if ((grid0.coords t 1 : Fin 3) : ℕ) = 0 then 0 else (outsAt0 m c (t.val - 1) (by omega)).2 (ix2 s d))
      + tile0 m c t s d + tile1 m c t s d + tile2 m c t s d + tile3 m c t s d := by
  rw [outsAt0_B m c t h0 h1 h2]
  frame_out
  rw [pay2_at, pay1_at, pay17_at, pay15_at, read_unread_whole]
  rfl

/-- The accumulator the last step multiplies by the gate. -/
def last (c : Dev nD) (t : Fin cfg0.N) : Vec Ideal S1280x1024 .f32 :=
  k0_pay1 (k0_pay13 (iblk m c 0 t)) (k0_pay18 (k0_pay13 (iblk m c 0 t)) (iblk m c 8 t)) (k0_pay19 (iblk m c 9 t))
        (constant S1280x256 FTy.f32 0#32) (iblk m c 10 t)
        (k0_pay17 (k0_pay13 (iblk m c 0 t)) (iblk m c 5 t) (iblk m c 6 t) (iblk m c 7 t)
          (k0_pay16
            (k0_pay15 (grid0.coords t) (iblk m c 0 t) (iblk m c 2 t) (iblk m c 3 t) (iblk m c 4 t)
              (outsAt0 m c (t.val - 1) (by omega)).2)))

theorem last_at (c : Dev nD) (t : Fin cfg0.N) (s : Fin 1280) (d : Fin 1024) :
    last m c t (ix2 s d) = (if ((grid0.coords t 1 : Fin 3) : ℕ) = 0 then 0 else (outsAt0 m c (t.val - 1) (by omega)).2 (ix2 s d))
      + tile0 m c t s d + tile1 m c t s d + tile2 m c t s d := by
  unfold last
  rw [pay1_at, pay17_at, pay15_at]
  rfl

theorem pay3_at (T : FVec Ideal S1280x1024 .f32) (s : Fin 1280) (l : Fin 128) :
    (k0_pay3 T : FVec Ideal S1x1280x128 .f32) (ix3 0 s l) = T (ix2 s ⟨128 * 3 + l, by omega⟩) := by
  pointwise [k0_pay3]
  blk_ext

theorem pay4_at (T : FVec Ideal S1280x1024 .f32) (s : Fin 1280) (l : Fin 128) :
    (k0_pay4 T : FVec Ideal S1x1280x128 .f32) (ix3 0 s l) = T (ix2 s ⟨128 * 4 + l, by omega⟩) := by
  pointwise [k0_pay4]
  blk_ext

theorem pay5_at (T : FVec Ideal S1280x1024 .f32) (s : Fin 1280) (l : Fin 128) :
    (k0_pay5 T : FVec Ideal S1x1280x128 .f32) (ix3 0 s l) = T (ix2 s ⟨128 * 5 + l, by omega⟩) := by
  pointwise [k0_pay5]
  blk_ext

theorem pay6_at (T : FVec Ideal S1280x1024 .f32) (s : Fin 1280) (l : Fin 128) :
    (k0_pay6 T : FVec Ideal S1x1280x128 .f32) (ix3 0 s l) = T (ix2 s ⟨128 * 6 + l, by omega⟩) := by
  pointwise [k0_pay6]
  blk_ext

theorem pay7_at (T : FVec Ideal S1280x1024 .f32) (s : Fin 1280) (l : Fin 128) :
    (k0_pay7 T : FVec Ideal S1x1280x128 .f32) (ix3 0 s l) = T (ix2 s ⟨128 * 7 + l, by omega⟩) := by
  pointwise [k0_pay7]
  blk_ext

theorem pay10_at (g : BitVec 32) (x : FVec Ideal S1280x1024 .bf16) (a : Vec Ideal S1280x1024 .f32) (wr : Vec Ideal S1024x128 .bf16) (s : Fin 1280) (l : Fin 128) :
    (k0_pay10 g x a wr : FVec Ideal S1x1280x128 .f32) (ix3 0 s l) = k0_pay9 g x a wr (ix2 s ⟨128 * 0 + l, by omega⟩) := by
  unfold k0_pay10
  generalize k0_pay9 g x a wr = T
  pointwise []
  blk_ext

theorem pay11_at (g : BitVec 32) (x : FVec Ideal S1280x1024 .bf16) (a : Vec Ideal S1280x1024 .f32) (wr : Vec Ideal S1024x128 .bf16) (s : Fin 1280) (l : Fin 128) :
    (k0_pay11 g x a wr : FVec Ideal S1x1280x128 .f32) (ix3 0 s l) = k0_pay9 g x a wr (ix2 s ⟨128 * 1 + l, by omega⟩) := by
  unfold k0_pay11
  generalize k0_pay9 g x a wr = T
  pointwise []
  blk_ext

theorem pay12_at (g : BitVec 32) (x : FVec Ideal S1280x1024 .bf16) (a : Vec Ideal S1280x1024 .f32) (wr : Vec Ideal S1024x128 .bf16) (s : Fin 1280) (l : Fin 128) :
    (k0_pay12 g x a wr : FVec Ideal S1x1280x128 .f32) (ix3 0 s l) = k0_pay9 g x a wr (ix2 s ⟨128 * 2 + l, by omega⟩) := by
  unfold k0_pay12
  generalize k0_pay9 g x a wr = T
  pointwise []
  blk_ext

/-- The piece whose rows are the rows with remainder `j` by 8 holds there the columns from `128 j` of the block the kernel splits. -/
theorem strided_at (j : ℕ) (hj : j < 8) (inb) (sp) (q : Vec Ideal S1x1280x128 .f32) (T : FVec Ideal S1280x1024 .f32)
    (hq : ∀ (s : Fin 1280) (l : Fin 128), q (ix3 0 s l) = T (ix2 s ⟨128 * j + l, by omega⟩)) (r : Fin 11264) (l : Fin 128) (v : EReal)
    (hv : (h : (r : ℕ) < 10240) → T (ix2 ⟨r / 8, by omega⟩ ⟨r % 8 * 128 + l, by omega⟩) = v) :
    View.RectAt (S := S1x11264x128) (Val := Elt Ideal) (e := .f32) (ix3 0 r l) ⟨⟨![0, j, 0], S1x1280x128.size, ![1, 8, 1], inb⟩, sp⟩ q v := by
  intro x hx
  obtain ⟨s, n, rfl⟩ : ∃ (s : Fin 1280) (n : Fin 128), x = ix3 0 s n := ⟨x 1, x 2, by funext a; fin_cases a <;> first | rfl | exact Subsingleton.elim (α := Fin 1) _ _⟩
  have e1 : j + 8 * (s : ℕ) = r := congrArg (fun y : S1x11264x128.Idx => (y 1 : ℕ)) hx
  have e2 : 0 + 1 * (n : ℕ) = l := congrArg (fun y : S1x11264x128.Idx => (y 2 : ℕ)) hx
  rw [hq, ← hv (by omega)]
  congr 2 <;> apply Fin.ext <;> simp only <;> omega

/-- The block written back: the gated rows split in eight pieces of 128 columns, then zero rows. -/
theorem out_C (c : Dev nD) (t : Fin cfg0.N) (h0 : ¬t.val % 48 = 0) (h1 : ¬t.val % 3 ≤ 1) (h2 : t.val % 3 = 2) (r : Fin 11264) (l : Fin 128) (v : EReal)
    (hv : (h : (r : ℕ) < 10240) → k0_pay9 (BitVec.ofNat 32 (grid0.coords t 0)) (k0_pay13 (iblk m c 0 t : Vec Ideal S1x1280x1024 .bf16)) (last m c t)
      (iblk m c 1 t : Vec Ideal S1024x128 .bf16) (ix2 ⟨r / 8, by omega⟩ ⟨r % 8 * 128 + l, by omega⟩) = v)
    (hz : ¬(r : ℕ) < 10240 → 0 = v) :
    (outsAt0 m c t.val t.isLt).1 (ix3 0 r l) = v := by
  rw [outsAt0_C m c t h0 h1 h2]
  frame_out
  simp only [read_unread_whole]
  have hl : k0_pay1 (k0_pay13 (iblk m c 0 t)) (k0_pay18 (k0_pay13 (iblk m c 0 t)) (iblk m c 8 t)) (k0_pay19 (iblk m c 9 t))
        (constant S1280x256 FTy.f32 0#32) (iblk m c 10 t)
        (k0_pay17 (k0_pay13 (iblk m c 0 t)) (iblk m c 5 t) (iblk m c 6 t) (iblk m c 7 t)
          (k0_pay16
            (k0_pay15 (grid0.coords t) (iblk m c 0 t) (iblk m c 2 t) (iblk m c 3 t) (iblk m c 4 t)
              (outsAt0 m c (t.val - 1) (by omega)).2))) = last m c t := rfl
  rw [hl]
  refine View.canon_eq_of_allAt _ _ _ (Cert.FfnGeo.cover _
    (fun j => match j with
      | ⟨0, _⟩ => ⟨_, List.mem_of_getElem? (i := 8) rfl, rfl, rfl, rfl⟩
      | ⟨1, _⟩ => ⟨_, List.mem_of_getElem? (i := 7) rfl, rfl, rfl, rfl⟩
      | ⟨2, _⟩ => ⟨_, List.mem_of_getElem? (i := 6) rfl, rfl, rfl, rfl⟩
      | ⟨3, _⟩ => ⟨_, List.mem_of_getElem? (i := 5) rfl, rfl, rfl, rfl⟩
      | ⟨4, _⟩ => ⟨_, List.mem_of_getElem? (i := 4) rfl, rfl, rfl, rfl⟩
      | ⟨5, _⟩ => ⟨_, List.mem_of_getElem? (i := 3) rfl, rfl, rfl, rfl⟩
      | ⟨6, _⟩ => ⟨_, List.mem_of_getElem? (i := 2) rfl, rfl, rfl, rfl⟩
      | ⟨7, _⟩ => ⟨_, List.mem_of_getElem? (i := 1) rfl, rfl, rfl, rfl⟩)
    ⟨_, List.mem_of_getElem? (i := 0) rfl, rfl, rfl, rfl⟩ _) ?_
  refine View.allAt_cons_unit _ _ _ _ _ ?_ ?_
  · intro x hx
    have e1 : (r : ℕ) = 10240 + (x 1 : ℕ) := hx 1
    rw [← hz (by omega)]
    pointwise [k0_pay8]
  refine View.allAt_cons _ _ _ (strided_at 7 (by decide) _ _ _ _ (pay7_at _) r l v hv) ?_
  refine View.allAt_cons _ _ _ (strided_at 6 (by decide) _ _ _ _ (pay6_at _) r l v hv) ?_
  refine View.allAt_cons _ _ _ (strided_at 5 (by decide) _ _ _ _ (pay5_at _) r l v hv) ?_
  refine View.allAt_cons _ _ _ (strided_at 4 (by decide) _ _ _ _ (pay4_at _) r l v hv) ?_
  refine View.allAt_cons _ _ _ (strided_at 3 (by decide) _ _ _ _ (pay3_at _) r l v hv) ?_
  refine View.allAt_cons _ _ _ (strided_at 2 (by decide) _ _ _ _ (pay12_at _ _ _ _) r l v hv) ?_
  refine View.allAt_cons _ _ _ (strided_at 1 (by decide) _ _ _ _ (pay11_at _ _ _ _) r l v hv) ?_
  exact View.allAt_cons _ _ _ (strided_at 0 (by decide) _ _ _ _ (pay10_at _ _ _ _) r l v hv) (View.allAt_nil _ _)

end Cert.FfnIdeal.Final

end
-- ==== Proof.FfnBlk.lean ====
/- The blocks the expert feed-forward kernel reads, in the launched arguments. -/
module

public import proofs.«01_k».proof.Proof.FfnAcc

@[expose] public section

set_option maxRecDepth 16384

noncomputable section

namespace Cert.FfnIdeal.Final

open Idealize Idealize.ShloMosaic Idealize.SL.Sem Cert.FfnIdeal Cert.FfnIdeal.Gen Cert.FfnIdeal.Body Cert.FfnMath Cert.AttnMath

variable (m : (ℓ : Loc nD τ sig) → Buf (Elt Ideal) ℓ)

/-- Where each window's block lies. -/
theorem idx : ∀ t : Fin cfg0.N, win0_0.index t = ![t.val / 3, 0, 0]
    ∧ win0_1.index t = ![0, 0]
    ∧ win0_2.index t = ![0, t.val / 3, 0, min (4 * (t.val % 3) + 0) 10]
    ∧ win0_3.index t = ![0, t.val / 3, 0, min (4 * (t.val % 3) + 0) 10]
    ∧ win0_4.index t = ![0, t.val / 3, min (4 * (t.val % 3) + 0) 10, 0]
    ∧ win0_5.index t = ![0, t.val / 3, 0, min (4 * (t.val % 3) + 1) 10]
    ∧ win0_6.index t = ![0, t.val / 3, 0, min (4 * (t.val % 3) + 1) 10]
    ∧ win0_7.index t = ![0, t.val / 3, min (4 * (t.val % 3) + 1) 10, 0]
    ∧ win0_8.index t = ![0, t.val / 3, 0, min (4 * (t.val % 3) + 2) 10]
    ∧ win0_9.index t = ![0, t.val / 3, 0, min (4 * (t.val % 3) + 2) 10]
    ∧ win0_10.index t = ![0, t.val / 3, min (4 * (t.val % 3) + 2) 10, 0]
    ∧ win0_11.index t = ![0, t.val / 3, 0, min (4 * (t.val % 3) + 3) 10]
    ∧ win0_12.index t = ![0, t.val / 3, 0, min (4 * (t.val % 3) + 3) 10]
    ∧ win0_13.index t = ![0, t.val / 3, min (4 * (t.val % 3) + 3) 10, 0]
    ∧ win0_14.index t = ![t.val / 3, 0, 0] :=
  (by decide +kernel : ∀ t : Fin grid0.N, _)

/-- A point's expert and step. -/
theorem coord0 (t : Fin cfg0.N) : (grid0.coords t 0 : ℕ) = t.val / 3 := by
  have ht : t.val < 48 := Nat.lt_of_lt_of_eq t.isLt N_0
  have e0 : (grid0.coords t 0).val = t.val / 3 % 16 := Pipeline.Grid.coords_val t 0 (by decide) rfl
  omega

theorem coord1 (t : Fin cfg0.N) : (grid0.coords t 1 : ℕ) = t.val % 3 := by
  have e1 : (grid0.coords t 1).val = t.val / 1 % 3 := Pipeline.Grid.coords_val t 1 (by decide) rfl
  omega

/-- Arguments as launched. -/
abbrev A0 (c : Dev nD) : FVec Ideal S16x1280x1024 .f32 := m ((c.tc : Thread nD τ).loc main_arg0)
abbrev A1 (c : Dev nD) : FVec Ideal S1x1024x16 .f32 := m ((c.tc : Thread nD τ).loc main_arg1)
abbrev A2 (c : Dev nD) : FVec Ideal S1x16x1024x2816 .f32 := m ((c.tc : Thread nD τ).loc main_arg2)
abbrev A3 (c : Dev nD) : FVec Ideal S1x16x1024x2816 .f32 := m ((c.tc : Thread nD τ).loc main_arg3)
abbrev A4 (c : Dev nD) : FVec Ideal S1x16x2816x1024 .f32 := m ((c.tc : Thread nD τ).loc main_arg4)

theorem x_at (c : Dev nD) (t : Fin cfg0.N) (s : Fin 1280) (d : Fin 1024) (e : Fin 16) (he : (e : ℕ) = t.val / 3) :
    (k0_pay13 (iblk m c 0 t : Vec Ideal S1x1280x1024 .bf16)) (ix2 s d) = A0 m c (ix3 e s d) := by
  rw [pay13_at]
  unfold iblk
  entry_read
  blk_simp [idx t]
  pointwise
  blk_ext [idx t]

/-- The router's weights as the host pads them to 128 lanes. -/
theorem V_wr (c : Dev nD) : V m c main_v2 = (truncf .bf16 (pad S1024x128 ![0, 0] ![0, 112] ![0, 0] (shapeCast S1024x16 (A1 m c) shapeCasts_S1x1024x16_S1024x16)
    (sitofp .f32 (constantI S_ 32 0#32)) pads_S1024x16_S1024x128_000_01120 h_S_) bitsLt_bf16_f32 : FVec Ideal S1024x128 .bf16) := rfl

theorem wr_at (c : Dev nD) (t : Fin cfg0.N) (d : Fin 1024) (n : Fin 16) :
    (iblk m c 1 t : Vec Ideal S1024x128 .bf16) (ix2 d ⟨n, by omega⟩) = A1 m c (ix3 0 d n) := by
  unfold iblk
  refine Eq.trans (congrFun (V_wr m c) _) ?_
  blk_simp [idx t]
  pointwise
  rw [dif_pos (by blk_simp [idx t]; exact n.isLt)]
  blk_ext [idx t]

theorem w2_at (c : Dev nD) (t : Fin cfg0.N) (k : Fin 1024) (l : Fin 256) (e : Fin 16) (n : Fin 2816) (he : (e : ℕ) = t.val / 3) (hb : 4 * (t.val % 3) + 0 ≤ 10)
    (hn : (n : ℕ) = (4 * (t.val % 3) + 0) * 256 + l) :
    (iblk m c 2 t : Vec Ideal S1x1x1024x256 .f32) (ix4 0 0 k l) = A2 m c (ix4 0 e k n) := by
  have hm : min (4 * (t.val % 3) + 0) 10 = 4 * (t.val % 3) + 0 := by omega
  blk_point [iblk, V, idx t, hm]

theorem w3_at (c : Dev nD) (t : Fin cfg0.N) (k : Fin 1024) (l : Fin 256) (e : Fin 16) (n : Fin 2816) (he : (e : ℕ) = t.val / 3) (hb : 4 * (t.val % 3) + 0 ≤ 10)
    (hn : (n : ℕ) = (4 * (t.val % 3) + 0) * 256 + l) :
    (iblk m c 3 t : Vec Ideal S1x1x1024x256 .f32) (ix4 0 0 k l) = A3 m c (ix4 0 e k n) := by
  have hm : min (4 * (t.val % 3) + 0) 10 = 4 * (t.val % 3) + 0 := by omega
  blk_point [iblk, V, idx t, hm]

theorem w4_at (c : Dev nD) (t : Fin cfg0.N) (l : Fin 256) (d : Fin 1024) (e : Fin 16) (n : Fin 2816) (he : (e : ℕ) = t.val / 3) (hb : 4 * (t.val % 3) + 0 ≤ 10)
    (hn : (n : ℕ) = (4 * (t.val % 3) + 0) * 256 + l) :
    (iblk m c 4 t : Vec Ideal S1x1x256x1024 .f32) (ix4 0 0 l d) = A4 m c (ix4 0 e n d) := by
  have hm : min (4 * (t.val % 3) + 0) 10 = 4 * (t.val % 3) + 0 := by omega
  blk_point [iblk, V, idx t, hm]

theorem w5_at (c : Dev nD) (t : Fin cfg0.N) (k : Fin 1024) (l : Fin 256) (e : Fin 16) (n : Fin 2816) (he : (e : ℕ) = t.val / 3) (hb : 4 * (t.val % 3) + 1 ≤ 10)
    (hn : (n : ℕ) = (4 * (t.val % 3) + 1) * 256 + l) :
    (iblk m c 5 t : Vec Ideal S1x1x1024x256 .f32) (ix4 0 0 k l) = A2 m c (ix4 0 e k n) := by
  have hm : min (4 * (t.val % 3) + 1) 10 = 4 * (t.val % 3) + 1 := by omega
  blk_point [iblk, V, idx t, hm]

theorem w6_at (c : Dev nD) (t : Fin cfg0.N) (k : Fin 1024) (l : Fin 256) (e : Fin 16) (n : Fin 2816) (he : (e : ℕ) = t.val / 3) (hb : 4 * (t.val % 3) + 1 ≤ 10)
    (hn : (n : ℕ) = (4 * (t.val % 3) + 1) * 256 + l) :
    (iblk m c 6 t : Vec Ideal S1x1x1024x256 .f32) (ix4 0 0 k l) = A3 m c (ix4 0 e k n) := by
  have hm : min (4 * (t.val % 3) + 1) 10 = 4 * (t.val % 3) + 1 := by omega
  blk_point [iblk, V, idx t, hm]

theorem w7_at (c : Dev nD) (t : Fin cfg0.N) (l : Fin 256) (d : Fin 1024) (e : Fin 16) (n : Fin 2816) (he : (e : ℕ) = t.val / 3) (hb : 4 * (t.val % 3) + 1 ≤ 10)
    (hn : (n : ℕ) = (4 * (t.val % 3) + 1) * 256 + l) :
    (iblk m c 7 t : Vec Ideal S1x1x256x1024 .f32) (ix4 0 0 l d) = A4 m c (ix4 0 e n d) := by
  have hm : min (4 * (t.val % 3) + 1) 10 = 4 * (t.val % 3) + 1 := by omega
  blk_point [iblk, V, idx t, hm]

theorem w8_at (c : Dev nD) (t : Fin cfg0.N) (k : Fin 1024) (l : Fin 256) (e : Fin 16) (n : Fin 2816) (he : (e : ℕ) = t.val / 3) (hb : 4 * (t.val % 3) + 2 ≤ 10)
    (hn : (n : ℕ) = (4 * (t.val % 3) + 2) * 256 + l) :
    (iblk m c 8 t : Vec Ideal S1x1x1024x256 .f32) (ix4 0 0 k l) = A2 m c (ix4 0 e k n) := by
  have hm : min (4 * (t.val % 3) + 2) 10 = 4 * (t.val % 3) + 2 := by omega
  blk_point [iblk, V, idx t, hm]

theorem w9_at (c : Dev nD) (t : Fin cfg0.N) (k : Fin 1024) (l : Fin 256) (e : Fin 16) (n : Fin 2816) (he : (e : ℕ) = t.val / 3) (hb : 4 * (t.val % 3) + 2 ≤ 10)
    (hn : (n : ℕ) = (4 * (t.val % 3) + 2) * 256 + l) :
    (iblk m c 9 t : Vec Ideal S1x1x1024x256 .f32) (ix4 0 0 k l) = A3 m c (ix4 0 e k n) := by
  have hm : min (4 * (t.val % 3) + 2) 10 = 4 * (t.val % 3) + 2 := by omega
  blk_point [iblk, V, idx t, hm]

theorem w10_at (c : Dev nD) (t : Fin cfg0.N) (l : Fin 256) (d : Fin 1024) (e : Fin 16) (n : Fin 2816) (he : (e : ℕ) = t.val / 3) (hb : 4 * (t.val % 3) + 2 ≤ 10)
    (hn : (n : ℕ) = (4 * (t.val % 3) + 2) * 256 + l) :
    (iblk m c 10 t : Vec Ideal S1x1x256x1024 .f32) (ix4 0 0 l d) = A4 m c (ix4 0 e n d) := by
  have hm : min (4 * (t.val % 3) + 2) 10 = 4 * (t.val % 3) + 2 := by omega
  blk_point [iblk, V, idx t, hm]

theorem w11_at (c : Dev nD) (t : Fin cfg0.N) (k : Fin 1024) (l : Fin 256) (e : Fin 16) (n : Fin 2816) (he : (e : ℕ) = t.val / 3) (hb : 4 * (t.val % 3) + 3 ≤ 10)
    (hn : (n : ℕ) = (4 * (t.val % 3) + 3) * 256 + l) :
    (iblk m c 11 t : Vec Ideal S1x1x1024x256 .f32) (ix4 0 0 k l) = A2 m c (ix4 0 e k n) := by
  have hm : min (4 * (t.val % 3) + 3) 10 = 4 * (t.val % 3) + 3 := by omega
  blk_point [iblk, V, idx t, hm]

theorem w12_at (c : Dev nD) (t : Fin cfg0.N) (k : Fin 1024) (l : Fin 256) (e : Fin 16) (n : Fin 2816) (he : (e : ℕ) = t.val / 3) (hb : 4 * (t.val % 3) + 3 ≤ 10)
    (hn : (n : ℕ) = (4 * (t.val % 3) + 3) * 256 + l) :
    (iblk m c 12 t : Vec Ideal S1x1x1024x256 .f32) (ix4 0 0 k l) = A3 m c (ix4 0 e k n) := by
  have hm : min (4 * (t.val % 3) + 3) 10 = 4 * (t.val % 3) + 3 := by omega
  blk_point [iblk, V, idx t, hm]

theorem w13_at (c : Dev nD) (t : Fin cfg0.N) (l : Fin 256) (d : Fin 1024) (e : Fin 16) (n : Fin 2816) (he : (e : ℕ) = t.val / 3) (hb : 4 * (t.val % 3) + 3 ≤ 10)
    (hn : (n : ℕ) = (4 * (t.val % 3) + 3) * 256 + l) :
    (iblk m c 13 t : Vec Ideal S1x1x256x1024 .f32) (ix4 0 0 l d) = A4 m c (ix4 0 e n d) := by
  have hm : min (4 * (t.val % 3) + 3) 10 = 4 * (t.val % 3) + 3 := by omega
  blk_point [iblk, V, idx t, hm]

end Cert.FfnIdeal.Final

end
-- ==== Proof.FfnClaim.lean ====
/- The expert feed-forward kernel computes what its reference does. -/
module

public import proofs.«01_k».proof.Defs
public import proofs.«01_k».proof.Proof.FfnBlk
public import Idealize.ShloMosaic.Lib.Claim

@[expose] public section

set_option maxRecDepth 16384

noncomputable section

namespace Cert.FfnIdeal.Final

open Idealize Idealize.ShloMosaic Idealize.SL.Sem Cert.FfnIdeal Cert.FfnIdeal.Gen Cert.FfnIdeal.Body Cert.FfnMath Cert.AttnMath Cert.FfnRefIdeal.Stage

variable (m : (ℓ : Loc nD τ sig) → Buf (Elt Ideal) ℓ)

/-- One hidden lane's term of an expert's output. -/
def term (c : Dev nD) (e : Fin 16) (s : Fin 1280) (d : Fin 1024) (n : Fin 2816) : EReal :=
  act (∑ k, A0 m c (ix3 e s k) * A2 m c (ix4 0 e k n)) (∑ k, A0 m c (ix3 e s k) * A3 m c (ix4 0 e k n)) * A4 m c (ix4 0 e n d)

/-- The terms of the lanes of one tile. -/
def tileSum (c : Dev nD) (e : Fin 16) (s : Fin 1280) (d : Fin 1024) (b : Fin 11) : EReal :=
  ∑ l : Fin 256, term m c e s d ⟨b * 256 + l, by omega⟩

theorem tile0_at (c : Dev nD) (t : Fin cfg0.N) (e : Fin 16) (s : Fin 1280) (d : Fin 1024) (b : Fin 11) (he : (e : ℕ) = t.val / 3)
    (hb : 4 * (t.val % 3) + 0 = (b : ℕ)) : tile0 m c t s d = tileSum m c e s d b := by
  unfold tile0 part tileSum term
  refine Finset.sum_congr rfl fun l _ => ?_
  simp only [x_at m c t _ _ e he, w2_at m c t _ l e ⟨b * 256 + l, by omega⟩ he (by omega) (by simp only; omega),
    w3_at m c t _ l e ⟨b * 256 + l, by omega⟩ he (by omega) (by simp only; omega), w4_at m c t l d e ⟨b * 256 + l, by omega⟩ he (by omega) (by simp only; omega)]

theorem tile1_at (c : Dev nD) (t : Fin cfg0.N) (e : Fin 16) (s : Fin 1280) (d : Fin 1024) (b : Fin 11) (he : (e : ℕ) = t.val / 3)
    (hb : 4 * (t.val % 3) + 1 = (b : ℕ)) : tile1 m c t s d = tileSum m c e s d b := by
  unfold tile1 part tileSum term
  refine Finset.sum_congr rfl fun l _ => ?_
  simp only [x_at m c t _ _ e he, w5_at m c t _ l e ⟨b * 256 + l, by omega⟩ he (by omega) (by simp only; omega),
    w6_at m c t _ l e ⟨b * 256 + l, by omega⟩ he (by omega) (by simp only; omega), w7_at m c t l d e ⟨b * 256 + l, by omega⟩ he (by omega) (by simp only; omega)]

theorem tile2_at (c : Dev nD) (t : Fin cfg0.N) (e : Fin 16) (s : Fin 1280) (d : Fin 1024) (b : Fin 11) (he : (e : ℕ) = t.val / 3)
    (hb : 4 * (t.val % 3) + 2 = (b : ℕ)) : tile2 m c t s d = tileSum m c e s d b := by
  unfold tile2 part tileSum term
  refine Finset.sum_congr rfl fun l _ => ?_
  simp only [x_at m c t _ _ e he, w8_at m c t _ l e ⟨b * 256 + l, by omega⟩ he (by omega) (by simp only; omega),
    w9_at m c t _ l e ⟨b * 256 + l, by omega⟩ he (by omega) (by simp only; omega), w10_at m c t l d e ⟨b * 256 + l, by omega⟩ he (by omega) (by simp only; omega)]

theorem tile3_at (c : Dev nD) (t : Fin cfg0.N) (e : Fin 16) (s : Fin 1280) (d : Fin 1024) (b : Fin 11) (he : (e : ℕ) = t.val / 3)
    (hb : 4 * (t.val % 3) + 3 = (b : ℕ)) : tile3 m c t s d = tileSum m c e s d b := by
  unfold tile3 part tileSum term
  refine Finset.sum_congr rfl fun l _ => ?_
  simp only [x_at m c t _ _ e he, w11_at m c t _ l e ⟨b * 256 + l, by omega⟩ he (by omega) (by simp only; omega),
    w12_at m c t _ l e ⟨b * 256 + l, by omega⟩ he (by omega) (by simp only; omega), w13_at m c t l d e ⟨b * 256 + l, by omega⟩ he (by omega) (by simp only; omega)]

/-- After an expert's first step the accumulator holds its first four tiles' terms, whatever it held before. -/
theorem acc0 (c : Dev nD) (t : Fin cfg0.N) (ht : t.val % 3 = 0) (s : Fin 1280) (d : Fin 1024) :
    (outsAt0 m c t.val t.isLt).2 (ix2 s d) = 0 + tile0 m c t s d + tile1 m c t s d + tile2 m c t s d + tile3 m c t s d := by
  by_cases h : t.val % 48 = 0
  · exact acc_A m c t h (by omega) (by omega) s d
  · rw [acc_B m c t h (by omega) (by omega) s d, if_pos (by rw [coord1]; exact ht)]

/-- After its second, its first eight tiles'. -/
theorem acc1 (c : Dev nD) (t u : Fin cfg0.N) (ht : t.val % 3 = 1) (hu : u.val = t.val - 1) (s : Fin 1280) (d : Fin 1024) :
    (outsAt0 m c t.val t.isLt).2 (ix2 s d) = (outsAt0 m c u.val u.isLt).2 (ix2 s d)
      + tile0 m c t s d + tile1 m c t s d + tile2 m c t s d + tile3 m c t s d := by
  obtain ⟨u, hlt⟩ := u
  obtain rfl : u = t.val - 1 := hu
  rw [acc_B m c t (by omega) (by omega) (by omega) s d, if_neg (by rw [coord1]; omega)]

/-- What the last step gates: the sum over the hidden lanes. -/
theorem last_sum (c : Dev nD) (t : Fin cfg0.N) (ht : t.val % 3 = 2) (e : Fin 16) (he : (e : ℕ) = t.val / 3) (s : Fin 1280) (d : Fin 1024) :
    last m c t (ix2 s d) = ∑ n, term m c e s d n := by
  have h1 : t.val - 1 < cfg0.N := by omega
  have h2 : t.val - 2 < cfg0.N := by omega
  rw [last_at, if_neg (by rw [coord1]; omega),
    show (outsAt0 m c (t.val - 1) (by omega)).2 (ix2 s d) = _ from acc1 m c ⟨t.val - 1, h1⟩ ⟨t.val - 2, h2⟩ (by simp only; omega) (by simp only; omega) s d,
    acc0 m c ⟨t.val - 2, h2⟩ (by simp only; omega) s d]
  have e1 : (e : ℕ) = (⟨t.val - 1, h1⟩ : Fin cfg0.N).val / 3 := by simp only; omega
  have e2 : (e : ℕ) = (⟨t.val - 2, h2⟩ : Fin cfg0.N).val / 3 := by simp only; omega
  have f1 : (⟨t.val - 1, h1⟩ : Fin cfg0.N).val % 3 = 1 := by simp only; omega
  have f2 : (⟨t.val - 2, h2⟩ : Fin cfg0.N).val % 3 = 0 := by simp only; omega
  rw [tile0_at m c ⟨t.val - 2, h2⟩ e s d 0 e2 (by rw [f2]; rfl), tile1_at m c ⟨t.val - 2, h2⟩ e s d 1 e2 (by rw [f2]; rfl),
    tile2_at m c ⟨t.val - 2, h2⟩ e s d 2 e2 (by rw [f2]; rfl), tile3_at m c ⟨t.val - 2, h2⟩ e s d 3 e2 (by rw [f2]; rfl),
    tile0_at m c ⟨t.val - 1, h1⟩ e s d 4 e1 (by rw [f1]; rfl), tile1_at m c ⟨t.val - 1, h1⟩ e s d 5 e1 (by rw [f1]; rfl),
    tile2_at m c ⟨t.val - 1, h1⟩ e s d 6 e1 (by rw [f1]; rfl), tile3_at m c ⟨t.val - 1, h1⟩ e s d 7 e1 (by rw [f1]; rfl),
    tile0_at m c t e s d 8 he (by rw [ht]; rfl), tile1_at m c t e s d 9 he (by rw [ht]; rfl), tile2_at m c t e s d 10 he (by rw [ht]; rfl)]
  refine Eq.trans (b := ∑ b : Fin 11, tileSum m c e s d b) ?_ (Fin.sum_mul_add_congr fun b l hl => rfl)
  simp only [Fin.sum_univ_castSucc, Fin.sum_univ_zero]
  rfl

/-- The reference's result of the launched arguments. -/
abbrev Y (c : Dev nD) : FVec Ideal Cert.FfnRefIdeal.S16x1280x1024 .f32 :=
  wtd (hid (up (A0 m c) (A2 m c)) (up (A0 m c) (A3 m c))) (A4 m c) (own (aff (score (A0 m c) (A1 m c))))

theorem gated (c : Dev nD) (t : Fin cfg0.N) (ht : t.val % 3 = 2) (e : Fin 16) (he : (e : ℕ) = t.val / 3) (s : Fin 1280) (d : Fin 1024) :
    k0_pay9 (BitVec.ofNat 32 (grid0.coords t 0)) (k0_pay13 (iblk m c 0 t : Vec Ideal S1x1280x1024 .bf16)) (last m c t)
      (iblk m c 1 t : Vec Ideal S1024x128 .bf16) (ix2 s d) = Y m c (ix3 e s d) := by
  rw [coord0, ← he, pay9_at, last_sum m c t ht e he]
  refine Eq.trans ?_ (wtd_at _ _ _ e s d).symm
  rw [own_at, aff_at]
  simp only [hid_at, up_at, score_at, x_at m c t _ _ e he, wr_at]
  rfl

theorem final14 (c : Dev nD) : (dats m 0 c).arrAt 14 (cfgs 0).N = (res (Y m c) : FVec Ideal S16x11264x128 .f32) := by
  refine (dats m 0 c).arrAt_eq_of_covers 14 _ (by decide +kernel) fun t hf y => ?_
  have ht : t.val % 3 = 2 := (by decide +kernel : ∀ t : Fin cfg0.N, (cfg0.win 14).flush t = true → t.val % 3 = 2) t hf
  have hN : t.val < 48 := Nat.lt_of_lt_of_eq t.isLt N_0
  blk_simp
  rw [after0_14]
  obtain ⟨r, l, rfl⟩ : ∃ (r : Fin 11264) (l : Fin 128), y = ix3 0 r l := ⟨y 1, y 2, by funext a; fin_cases a <;> first | rfl | exact Subsingleton.elim (α := Fin 1) _ _⟩
  refine out_C m c t (by omega) (by omega) ht r l _ (fun h => ?_) (fun h => ?_)
  · refine (gated m c t ht ⟨t.val / 3, by omega⟩ rfl _ _).trans ((res_at (Y m c) ⟨t.val / 3, by omega⟩ r l h).symm.trans ?_)
    blk_ext [idx t]
  · refine (res_zero (Y m c) ⟨t.val / 3, by omega⟩ r l h).symm.trans ?_
    blk_ext [idx t]

set_option maxHeartbeats 4000000 in
/-- Kernel and reference end with the same result. -/
theorem algebraic : Cert.algebraic_FfnIdeal_FfnRefIdeal := by
  pair_intro
  · run_from Cert.FfnIdeal.Body.run_main m g
    · exact V_main_arg0 m c
    · exact V_main_arg1 m c
  · run_from Cert.FfnRefIdeal.Value.run m' g'
    exact (final14 m c).symm

end Cert.FfnIdeal.Final

end
-- ==== Proof.InprojRef.lean ====
/- The in-projection reference's operations in stages (modulated rows, the product, the eight results), each at an index. -/
module

public import proofs.«01_k».proof.Proof.Gen.InprojRefIdeal.Run
public import Idealize.ShloMosaic.Lib.Pointwise
public import Idealize.ShloMosaic.Lib.Pipeline.ValueKit

@[expose] public section

set_option maxRecDepth 16384

noncomputable section

namespace Cert.InprojMath

open Idealize Idealize.ShloMosaic

/-- One lane of a row after the root-mean-square norm, the gain, the modulation's scale and its shift. -/
def row (x sh sc g : Fin 1024 → EReal) (d : Fin 1024) : EReal :=
  x d * Ideal.rsqrt (Ideal.div (∑ e, x e * x e) (Ideal.ofBits .f32 0x44800000#32) + Ideal.ofBits .f32 0x358637BD#32) * g d
    * (Ideal.ofBits .f32 0x3F800000#32 + sc d) + sh d

/-- Lane `e` of modulation vector `i`. -/
def at6 (i : Fin 6) (e : Fin 1024) : Fin 6144 := ⟨1024 * i + e, by omega⟩

end Cert.InprojMath

namespace Cert.InprojRefIdeal.Stage

open Idealize Idealize.ShloMosaic Idealize.SL.Sem Cert.InprojRefIdeal Cert.InprojRefIdeal.Gen Cert.InprojRefIdeal.Facts Cert.InprojRefIdeal.Value Cert.InprojMath

section
variable {F : FTy → Type} [FloatOps F]

/-- The normalised and modulated rows. -/
def hid (x : FVec F S32x256x1024 .f32) (mod : FVec F S8x6144 .f32) (g : FVec F S1x1024 .f32) : FVec F S32x256x1024 .f32 :=
  addf (mulf (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ g shapeCasts_S1x1024_S1024)))) (broadcastInDim S32x256x1024 ![0, 1, 2] bcast_S1x1x1024_S32x256x1024_0_1_2 (broadcastInDim S1x1x1024 ![1, 2] bcast_S1x1024_S1x1x1024_1_2 (addf (broadcastInDim S1x1024 ![] bcast_S_S1x1024 (constant S_ .f32 0x3F800000#32)) (shapeCast _ (extractStridedSlice S1x1x1024 ![0, 1, 0] (shapeCast _ (shapeCast _ (extractStridedSlice S1x6144 ![0, 0] mod slices_S8x6144_S1x6144_0_0) shapeCasts_S1x6144_S6144) shapeCasts_S6144_S1x6x1024) slices_S1x6x1024_S1x1x1024_0_1_0) shapeCasts_S1x1x1024_S1x1024))))) (broadcastInDim S32x256x1024 ![0, 1, 2] bcast_S1x1x1024_S32x256x1024_0_1_2 (broadcastInDim S1x1x1024 ![1, 2] bcast_S1x1024_S1x1x1024_1_2 (shapeCast _ (extractStridedSlice S1x1x1024 ![0, 0, 0] (shapeCast _ (shapeCast _ (extractStridedSlice S1x6144 ![0, 0] mod slices_S8x6144_S1x6144_0_0) shapeCasts_S1x6144_S6144) shapeCasts_S6144_S1x6x1024) slices_S1x6x1024_S1x1x1024_0_0_0) shapeCasts_S1x1x1024_S1x1024)))

/-- All columns of the product. -/
def proj (x : FVec F S32x256x1024 .f32) (mod : FVec F S8x6144 .f32) (g : FVec F S1x1024 .f32) (w : FVec F S1x1024x4608 .f32) : FVec F S32x256x4608 .f32 :=
  Host.dotGeneral dot_S32x256x1024_S1024x4608_S32x256x4608_2_0_01_1_n_n none (hid x mod g) (shapeCast _ w shapeCasts_S1x1024x4608_S1024x4608)

/-- Result q, from the product. -/
def res_q (z : FVec F S32x256x4608 .f32) : FVec F S8192x768 .bf16 :=
  truncf .bf16 (shapeCast _ (mulf (extractStridedSlice S32x256x768 ![0, 0, 0] z slices_S32x256x4608_S32x256x768_0_0_0) (broadcastInDim S32x256x768 ![] bcast_S_S32x256x768 (constant S_ .f32 0x3E000000#32))) shapeCasts_S32x256x768_S8192x768) bitsLt_bf16_f32

/-- Result k, from the product. -/
def res_k (z : FVec F S32x256x4608 .f32) : FVec F S8192x768 .bf16 :=
  truncf .bf16 (shapeCast _ (extractStridedSlice S32x256x768 ![0, 0, 768] z slices_S32x256x4608_S32x256x768_0_0_768) shapeCasts_S32x256x768_S8192x768) bitsLt_bf16_f32

/-- Result v, from the product. -/
def res_v (z : FVec F S32x256x4608 .f32) : FVec F S8192x768 .bf16 :=
  truncf .bf16 (shapeCast _ (extractStridedSlice S32x256x768 ![0, 0, 1536] z slices_S32x256x4608_S32x256x768_0_0_1536) shapeCasts_S32x256x768_S8192x768) bitsLt_bf16_f32

/-- Result f, from the product. -/
def res_f (z : FVec F S32x256x4608 .f32) : FVec F S8192x256 .bf16 :=
  truncf .bf16 (shapeCast _ (extractStridedSlice S32x256x256 ![0, 0, 2304] z slices_S32x256x4608_S32x256x256_0_0_2304) shapeCasts_S32x256x256_S8192x256) bitsLt_bf16_f32

/-- Result ga, from the product. -/
def res_ga (z : FVec F S32x256x4608 .f32) : FVec F S8192x1024 .bf16 :=
  truncf .bf16 (shapeCast _ (extractStridedSlice S32x256x1024 ![0, 0, 2560] z slices_S32x256x4608_S32x256x1024_0_0_2560) shapeCasts_S32x256x1024_S8192x1024) bitsLt_bf16_f32

/-- Result gf, from the product. -/
def res_gf (z : FVec F S32x256x4608 .f32) : FVec F S8192x1024 .bf16 :=
  truncf .bf16 (shapeCast _ (extractStridedSlice S32x256x1024 ![0, 0, 3584] z slices_S32x256x4608_S32x256x1024_0_0_3584) shapeCasts_S32x256x1024_S8192x1024) bitsLt_bf16_f32

/-- Result ck, from the product. -/
def res_ck (z : FVec F S32x256x4608 .f32) : FVec F S32x1x6x256x128 .f32 :=
  broadcastInDim S32x1x6x256x128 ![0, 2, 3, 4] bcast_S32x6x256x128_S32x1x6x256x128_0_2_3_4 (shapeCast _ (transpose S32x6x256x2x64 [0, 1, 3, 2, 4] (transpose S32x6x2x256x64 [0, 2, 3, 1, 4] (shapeCast _ (extractStridedSlice S32x256x768 ![0, 0, 768] z slices_S32x256x4608_S32x256x768_0_0_768) shapeCasts_S32x256x768_S32x256x6x2x64) transposes_S32x256x6x2x64_S32x6x2x256x64_0_2_3_1_4) transposes_S32x6x2x256x64_S32x6x256x2x64_0_1_3_2_4) shapeCasts_S32x6x256x2x64_S32x6x256x128)

/-- Result cv, from the product. -/
def res_cv (z : FVec F S32x256x4608 .f32) : FVec F S32x1x6x256x128 .f32 :=
  broadcastInDim S32x1x6x256x128 ![0, 2, 3, 4] bcast_S32x6x256x128_S32x1x6x256x128_0_2_3_4 (transpose S32x6x256x128 [0, 2, 1, 3] (shapeCast _ (extractStridedSlice S32x256x768 ![0, 0, 1536] z slices_S32x256x4608_S32x256x768_0_0_1536) shapeCasts_S32x256x768_S32x256x6x128) transposes_S32x256x6x128_S32x6x256x128_0_2_1_3)

end

theorem hid_at (x : FVec Ideal S32x256x1024 .f32) (mod : FVec Ideal S8x6144 .f32) (g : FVec Ideal S1x1024 .f32) (b : Fin 32) (s : Fin 256) (d : Fin 1024) :
    hid x mod g (ix3 b s d) = row (fun e => x (ix3 b s e)) (fun e => mod (ix2 0 (at6 0 e))) (fun e => mod (ix2 0 (at6 1 e))) (fun e => g (ix2 0 e)) d := by
  pointwise [hid]
  simp [row, at6]

theorem proj_at (x : FVec Ideal S32x256x1024 .f32) (mod : FVec Ideal S8x6144 .f32) (g : FVec Ideal S1x1024 .f32) (w : FVec Ideal S1x1024x4608 .f32)
    (b : Fin 32) (s : Fin 256) (n : Fin 4608) :
    proj x mod g w (ix3 b s n) = ∑ d, row (fun e => x (ix3 b s e)) (fun e => mod (ix2 0 (at6 0 e))) (fun e => mod (ix2 0 (at6 1 e))) (fun e => g (ix2 0 e)) d * w (ix3 0 d n) := by
  pointwise [proj, hid_at]

/-- Row `r` of batch entry `b`, among all rows. -/
theorem flat_at (z : FVec Ideal S32x256x4608 .f32) (R : Fin 8192) (b : Fin 32) (s : Fin 256) (hR : (R : ℕ) = 256 * b + s) :
    (∀ n : Fin 768, res_q z (ix2 R n) = z (ix3 b s ⟨n, by omega⟩) * Ideal.ofBits .f32 0x3E000000#32)
      ∧ (∀ n : Fin 768, res_k z (ix2 R n) = z (ix3 b s ⟨768 + n, by omega⟩))
      ∧ (∀ n : Fin 768, res_v z (ix2 R n) = z (ix3 b s ⟨1536 + n, by omega⟩))
      ∧ (∀ n : Fin 256, res_f z (ix2 R n) = z (ix3 b s ⟨2304 + n, by omega⟩))
      ∧ (∀ n : Fin 1024, res_ga z (ix2 R n) = z (ix3 b s ⟨2560 + n, by omega⟩))
      ∧ ∀ n : Fin 1024, res_gf z (ix2 R n) = z (ix3 b s ⟨3584 + n, by omega⟩) := by
  have h1 : (R : ℕ) / 256 = b := by omega
  have h2 : (R : ℕ) % 256 = s := by omega
  refine ⟨fun n => ?_, fun n => ?_, fun n => ?_, fun n => ?_, fun n => ?_, fun n => ?_⟩
  · pointwise [res_q]
    refine congrArg (fun v : EReal => v * _) ?_
    blk_ext
  · pointwise [res_k]
    blk_ext
  · pointwise [res_v]
    blk_ext
  · pointwise [res_f]
    blk_ext
  · pointwise [res_ga]
    blk_ext
  · pointwise [res_gf]
    blk_ext

theorem cache_at (z : FVec Ideal S32x256x4608 .f32) (b : Fin 32) (h : Fin 6) (s : Fin 256) (d : Fin 128) :
    res_ck z (ix5 b 0 h s d) = z (ix3 b s ⟨768 + (128 * h + d), by omega⟩)
      ∧ res_cv z (ix5 b 0 h s d) = z (ix3 b s ⟨1536 + (128 * h + d), by omega⟩) := by
  refine ⟨?_, ?_⟩
  · pointwise [res_ck]
    blk_ext
  · pointwise [res_cv]
    blk_ext

end Cert.InprojRefIdeal.Stage

end
-- ==== Proof.InprojValue.lean ====
/- The in-projection kernel's payloads at an index. -/
module

public import proofs.«01_k».proof.Proof.InprojRef
public import proofs.«01_k».proof.Proof.Gen.InprojIdeal.Value
public import Idealize.ShloMosaic.Lib.Claim
public import Idealize.ShloMosaic.Lib.Pointwise
public import Idealize.ShloMosaic.Lib.Pipeline.ValueKit

@[expose] public section

set_option maxRecDepth 16384

noncomputable section

namespace Cert.InprojIdeal.Final

open Idealize Idealize.ShloMosaic Idealize.SL.Sem Cert.InprojIdeal Cert.InprojIdeal.Gen Cert.InprojMath Cert.InprojRefIdeal.Stage

variable (m : (ℓ : Loc nD τ sig) → Buf (Elt Ideal) ℓ)

theorem idx : ∀ t : Fin cfg0.N, win0_0.index t = ![t.val, 0] ∧ win0_1.index t = ![0, 0, 0] ∧ win0_2.index t = ![0, 0]
    ∧ win0_3.index t = ![0, 0] ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0, 0, 0, 0] ∧ win0_11.index t = ![t.val, 0, 0, 0, 0] :=
  (by decide +kernel : ∀ t : Fin grid0.N, _)

/-- A lane of a row, from the blocks. -/
abbrev rowAt (P0 : Vec Ideal S1x1x6144 .f32) (P1 : Vec Ideal S512x1024 .f32) (P2 : Vec Ideal S1x1024 .f32) (r : Fin 512) (d : Fin 1024) : EReal :=
  row (fun e => P1 (ix2 r e)) (fun e => P0 (ix3 0 0 (at6 0 e))) (fun e => P0 (ix3 0 0 (at6 1 e))) (fun e => P2 (ix2 0 e)) d

theorem pay8_at (P0 : Vec Ideal S1x1x6144 .f32) (P1 : Vec Ideal S512x1024 .f32) (P2 : Vec Ideal S1x1024 .f32) (r : Fin 512) (d : Fin 1024) :
    k0_pay8 P0 P1 P2 (ix2 r d) = rowAt P0 P1 P2 r d := by
  pointwise [k0_pay8]
  simp [row, at6]

theorem pay_at (P0 : Vec Ideal S1x1x6144 .f32) (P1 : Vec Ideal S512x1024 .f32) (P2 : Vec Ideal S1x1024 .f32) (W : Vec Ideal S1024x768 .f32) (r : Fin 512) (n : Fin 768) :
    k0_pay9 P0 P1 P2 W (ix2 r n) = ∑ d, rowAt P0 P1 P2 r d * W (ix2 d n)
      ∧ k0_pay10 P0 P1 P2 W (ix2 r n) = ∑ d, rowAt P0 P1 P2 r d * W (ix2 d n)
      ∧ k0_pay11 P0 P1 P2 W (ix2 r n) = ∑ d, rowAt P0 P1 P2 r d * W (ix2 d n) := by
  refine ⟨?_, ?_, ?_⟩
  · pointwise [k0_pay9, pay8_at]
  · pointwise [k0_pay10, pay8_at]
  · pointwise [k0_pay11, pay8_at]

theorem pay12_at (P0 : Vec Ideal S1x1x6144 .f32) (P1 : Vec Ideal S512x1024 .f32) (P2 : Vec Ideal S1x1024 .f32) (W : Vec Ideal S1024x256 .f32) (r : Fin 512) (n : Fin 256) :
    k0_pay12 (k0_pay8 P0 P1 P2) W (ix2 r n) = ∑ d, rowAt P0 P1 P2 r d * W (ix2 d n) := by
  pointwise [k0_pay12, pay8_at]

theorem pay13_at (P0 : Vec Ideal S1x1x6144 .f32) (P1 : Vec Ideal S512x1024 .f32) (P2 : Vec Ideal S1x1024 .f32) (W : Vec Ideal S1024x1024 .f32) (r : Fin 512) (n : Fin 1024) :
    k0_pay13 (k0_pay8 P0 P1 P2) W (ix2 r n) = ∑ d, rowAt P0 P1 P2 r d * W (ix2 d n)
      ∧ k0_pay14 (k0_pay8 P0 P1 P2) W (ix2 r n) = ∑ d, rowAt P0 P1 P2 r d * W (ix2 d n) := by
  refine ⟨?_, ?_⟩
  · pointwise [k0_pay13, pay8_at]
  · pointwise [k0_pay14, pay8_at]

/-- Arguments as launched. -/
abbrev A0 (c : Dev nD) : FVec Ideal S32x256x1024 .f32 := m ((c.tc : Thread nD τ).loc main_arg0)
abbrev A1 (c : Dev nD) : FVec Ideal S8x6144 .f32 := m ((c.tc : Thread nD τ).loc main_arg1)
abbrev A2 (c : Dev nD) : FVec Ideal S1x1024 .f32 := m ((c.tc : Thread nD τ).loc main_arg2)
abbrev A3 (c : Dev nD) : FVec Ideal S1x1024x4608 .f32 := m ((c.tc : Thread nD τ).loc main_arg3)

theorem x_at (c : Dev nD) (t : Fin cfg0.N) (r : Fin 512) (e : Fin 1024) (b : Fin 32) (s : Fin 256) (hr : 512 * (t : ℕ) + r = 256 * b + s) :
    (iblk m c 0 t : Vec Ideal S512x1024 .f32) (ix2 r e) = A0 m c (ix3 b s e) := by
  have h1 : (512 * (t : ℕ) + r) / 256 = b := by omega
  have h2 : (512 * (t : ℕ) + r) % 256 = s := by omega
  unfold iblk
  entry_read
  blk_simp [idx t]
  pointwise
  blk_ext [idx t]

theorem mod_at (c : Dev nD) (t : Fin cfg0.N) (e : Fin 6144) :
    (iblk m c 1 t : Vec Ideal S1x1x6144 .f32) (ix3 0 0 e) = A1 m c (ix2 0 e) := by
  unfold iblk
  entry_read
  blk_simp [idx t]
  pointwise
  blk_ext [idx t]

theorem g_at (c : Dev nD) (t : Fin cfg0.N) (e : Fin 1024) :
    (iblk m c 2 t : Vec Ideal S1x1024 .f32) (ix2 0 e) = A2 m c (ix2 0 e) := by
  blk_point [iblk, V, idx t]

theorem w_at (c : Dev nD) (t : Fin cfg0.N) (e : Fin 1024) (n : Fin 4608) :
    (iblk m c 3 t : Vec Ideal S1024x4608 .f32) (ix2 e n) = A3 m c (ix3 0 e n) := by
  unfold iblk
  entry_read
  blk_simp [idx t]
  pointwise
  blk_ext [idx t]

end Cert.InprojIdeal.Final

end
-- ==== Proof.InprojClaim.lean ====
/- The in-projection kernel computes what its reference does. -/
module

public import proofs.«01_k».proof.Defs
public import proofs.«01_k».proof.Proof.InprojValue
public import Idealize.ShloMosaic.Lib.Claim
public import Idealize.ShloMosaic.Lib.Pointwise
public import Idealize.ShloMosaic.Lib.Pipeline.ValueKit

@[expose] public section

set_option maxRecDepth 16384

noncomputable section

namespace Cert.InprojIdeal.Final

open Idealize Idealize.ShloMosaic Idealize.SL.Sem Cert.InprojIdeal Cert.InprojIdeal.Gen Cert.InprojMath Cert.InprojRefIdeal.Stage

variable (m : (ℓ : Loc nD τ sig) → Buf (Elt Ideal) ℓ)

/-- The reference's projection of the launched arguments. -/
abbrev Z (c : Dev nD) : FVec Ideal Cert.InprojRefIdeal.S32x256x4608 .f32 := proj (A0 m c) (A1 m c) (A2 m c) (A3 m c)

/-- A row of the block against one column of the weight block is the reference's entry. -/
theorem sum_at (c : Dev nD) (t : Fin cfg0.N) (P0 : Vec Ideal S1x1x6144 .f32) (P1 : Vec Ideal S512x1024 .f32) (P2 : Vec Ideal S1x1024 .f32) (W : Fin 1024 → EReal)
    (r : Fin 512) (N : Fin 4608) (b : Fin 32) (s : Fin 256) (hr : 512 * (t : ℕ) + r = 256 * b + s)
    (h0 : ∀ e : Fin 6144, P0 (ix3 0 0 e) = (iblk m c 1 t : Vec Ideal S1x1x6144 .f32) (ix3 0 0 e))
    (h1 : ∀ e : Fin 1024, P1 (ix2 r e) = (iblk m c 0 t : Vec Ideal S512x1024 .f32) (ix2 r e))
    (h2 : ∀ e : Fin 1024, P2 (ix2 0 e) = (iblk m c 2 t : Vec Ideal S1x1024 .f32) (ix2 0 e))
    (h3 : ∀ e : Fin 1024, W e = (iblk m c 3 t : Vec Ideal S1024x4608 .f32) (ix2 e N)) :
    (∑ d, rowAt P0 P1 P2 r d * W d) = Z m c (ix3 b s N) := by
  refine Eq.trans ?_ (proj_at _ _ _ _ b s N).symm
  simp only [rowAt, h0, h1, h2, h3, x_at m c t r _ b s hr, mod_at, g_at, w_at]

theorem ld_m (x : Vec Ideal S1x1x6144 .f32) (e : Fin 6144) : View.ld x r0_0 (ix3 0 0 e) = x (ix3 0 0 e) :=
  View.ld_unit_apply_of x _ _ _ _ _ (fun a => by fin_cases a <;> simp)

theorem ld_x (x : Vec Ideal S512x1024 .f32) (r : Fin 512) (e : Fin 1024) : View.ld x r0_1 (ix2 r e) = x (ix2 r e) :=
  View.ld_unit_apply_of x _ _ _ _ _ (fun a => by fin_cases a <;> simp)

theorem ld_g (x : Vec Ideal S1x1024 .f32) (e : Fin 1024) : View.ld x r0_2 (ix2 0 e) = x (ix2 0 e) :=
  View.ld_unit_apply_of x _ _ _ _ _ (fun a => by fin_cases a <;> simp)

theorem ld_w (x : Vec Ideal S1024x4608 .f32) (e : Fin 1024) :
    (∀ n : Fin 768, View.ld x r0_3 (ix2 e n) = x (ix2 e ⟨n, by omega⟩))
      ∧ (∀ n : Fin 768, View.ld x r0_4 (ix2 e n) = x (ix2 e ⟨768 + n, by omega⟩))
      ∧ (∀ n : Fin 768, View.ld x r0_5 (ix2 e n) = x (ix2 e ⟨1536 + n, by omega⟩))
      ∧ (∀ n : Fin 256, View.ld x r0_6 (ix2 e n) = x (ix2 e ⟨2304 + n, by omega⟩))
      ∧ (∀ n : Fin 1024, View.ld x r0_8 (ix2 e n) = x (ix2 e ⟨2560 + n, by omega⟩))
      ∧ ∀ n : Fin 1024, View.ld x r0_9 (ix2 e n) = x (ix2 e ⟨3584 + n, by omega⟩) := by
  refine ⟨fun n => ?_, fun n => ?_, fun n => ?_, fun n => ?_, fun n => ?_, fun n => ?_⟩ <;>
    refine View.ld_unit_apply_of x _ _ _ _ _ (fun a => ?_) <;> fin_cases a <;> simp

theorem pay5_at (v : Vec Ideal S512x768 .f32) (r : Fin 512) (n : Fin 768) :
    (k0_pay5 v : FVec Ideal S512x768 .bf16) (ix2 r n) = v (ix2 r n) * Ideal.ofBits .f32 0x3E000000#32
      ∧ (k0_pay6 v : FVec Ideal S512x768 .bf16) (ix2 r n) = v (ix2 r n)
      ∧ (k0_pay7 v : FVec Ideal S512x768 .bf16) (ix2 r n) = v (ix2 r n) := by
  refine ⟨?_, ?_, ?_⟩
  · pointwise [k0_pay5]
  · pointwise [k0_pay6]
  · pointwise [k0_pay7]

/-- The block's entry, whatever columns the weight rectangle reads. -/
theorem entry (c : Dev nD) (t : Fin cfg0.N) (W : Fin 1024 → EReal) (r : Fin 512) (R : Fin 8192) (N : Fin 4608) (hR : (R : ℕ) = 512 * t + r)
    (h3 : ∀ e : Fin 1024, W e = (iblk m c 3 t : Vec Ideal S1024x4608 .f32) (ix2 e N)) :
    (∑ d, rowAt (View.ld (iblk m c 1 t : Vec Ideal S1x1x6144 .f32) r0_0) (View.ld (iblk m c 0 t : Vec Ideal S512x1024 .f32) r0_1)
        (View.ld (iblk m c 2 t : Vec Ideal S1x1024 .f32) r0_2) r d * W d)
      = Z m c (ix3 (⟨R / 256, by omega⟩ : Fin 32) (⟨R % 256, by omega⟩ : Fin 256) N) :=
  sum_at m c t _ _ _ W r N _ _ (by simp only; omega) (fun _ => ld_m _ _) (fun _ => ld_x _ _ _) (fun _ => ld_g _ _) h3

theorem row_of (R : Fin 8192) : (R : ℕ) = 256 * ((⟨R / 256, by omega⟩ : Fin 32) : ℕ) + ((⟨R % 256, by omega⟩ : Fin 256) : ℕ) := by
  simp only
  omega

theorem point4 (c : Dev nD) (t : Fin cfg0.N) (y : S512x768.Idx) (j : S8192x768.Idx) (hj0 : (j 0 : ℕ) = 512 * t + y 0) (hj1 : (j 1 : ℕ) = y 1) :
    (out0_4 (iblk m c 0 t) (iblk m c 1 t) (iblk m c 2 t) (iblk m c 3 t) : FVec Ideal S512x768 .bf16) y = (res_q (Z m c) : FVec Ideal S8192x768 .bf16) j := by
  have ej : j = ix2 (n0 := 8192) (n1 := 768) (j 0) (j 1) := by funext a; fin_cases a <;> rfl
  refine Eq.trans ?_ (((flat_at (Z m c) (j 0) _ _ (row_of (j 0))).1 (j 1)).symm.trans (congrArg (res_q (Z m c)) ej).symm)
  unfold out0_4
  canon_tiles x h
  obtain ⟨r, n, rfl⟩ : ∃ (r : Fin 512) (n : Fin 768), x = ix2 r n := ⟨x 0, x 1, by funext a; fin_cases a <;> rfl⟩
  have e0 : (y 0 : ℕ) = r := h0
  have e1 : (y 1 : ℕ) = n := h1
  rw [(pay5_at _ _ _).1, (pay_at _ _ _ _ _ _).1]
  refine congrArg (fun v : EReal => v * _) ?_
  refine entry m c t _ r (j 0) _ (by omega) fun e => ?_
  rw [(ld_w _ _).1]
  blk_ext [hj1, e1]

theorem final4 (c : Dev nD) : (dats m 0 c).arrAt 4 (cfgs 0).N = (res_q (Z m c) : FVec Ideal S8192x768 .bf16) := by
  refine (dats m 0 c).arrAt_eq_of_covers 4 _ (by decide +kernel) fun t _ y => ?_
  blk_simp
  rw [after0_4]
  refine point4 m c t y _ ?_ ?_ <;> blk_simp [idx t] <;> try omega

theorem point5 (c : Dev nD) (t : Fin cfg0.N) (y : S512x768.Idx) (j : S8192x768.Idx) (hj0 : (j 0 : ℕ) = 512 * t + y 0) (hj1 : (j 1 : ℕ) = y 1) :
    (out0_5 (iblk m c 0 t) (iblk m c 1 t) (iblk m c 2 t) (iblk m c 3 t) : FVec Ideal S512x768 .bf16) y = (res_k (Z m c) : FVec Ideal S8192x768 .bf16) j := by
  have ej : j = ix2 (n0 := 8192) (n1 := 768) (j 0) (j 1) := by funext a; fin_cases a <;> rfl
  refine Eq.trans ?_ (((flat_at (Z m c) (j 0) _ _ (row_of (j 0))).2.1 (j 1)).symm.trans (congrArg (res_k (Z m c)) ej).symm)
  unfold out0_5
  canon_tiles x h
  obtain ⟨r, n, rfl⟩ : ∃ (r : Fin 512) (n : Fin 768), x = ix2 r n := ⟨x 0, x 1, by funext a; fin_cases a <;> rfl⟩
  have e0 : (y 0 : ℕ) = r := h0
  have e1 : (y 1 : ℕ) = n := h1
  unfold k0_pay40
  rw [(pay5_at _ _ _).2.1, (pay_at _ _ _ _ _ _).2.1]
  refine entry m c t _ r (j 0) _ (by omega) fun e => ?_
  rw [(ld_w _ _).2.1]
  blk_ext [hj1, e1]

theorem final5 (c : Dev nD) : (dats m 0 c).arrAt 5 (cfgs 0).N = (res_k (Z m c) : FVec Ideal S8192x768 .bf16) := by
  refine (dats m 0 c).arrAt_eq_of_covers 5 _ (by decide +kernel) fun t _ y => ?_
  blk_simp
  rw [after0_5]
  refine point5 m c t y _ ?_ ?_ <;> blk_simp [idx t] <;> try omega

theorem point6 (c : Dev nD) (t : Fin cfg0.N) (y : S512x768.Idx) (j : S8192x768.Idx) (hj0 : (j 0 : ℕ) = 512 * t + y 0) (hj1 : (j 1 : ℕ) = y 1) :
    (out0_6 (iblk m c 0 t) (iblk m c 1 t) (iblk m c 2 t) (iblk m c 3 t) : FVec Ideal S512x768 .bf16) y = (res_v (Z m c) : FVec Ideal S8192x768 .bf16) j := by
  have ej : j = ix2 (n0 := 8192) (n1 := 768) (j 0) (j 1) := by funext a; fin_cases a <;> rfl
  refine Eq.trans ?_ (((flat_at (Z m c) (j 0) _ _ (row_of (j 0))).2.2.1 (j 1)).symm.trans (congrArg (res_v (Z m c)) ej).symm)
  unfold out0_6
  canon_tiles x h
  obtain ⟨r, n, rfl⟩ : ∃ (r : Fin 512) (n : Fin 768), x = ix2 r n := ⟨x 0, x 1, by funext a; fin_cases a <;> rfl⟩
  have e0 : (y 0 : ℕ) = r := h0
  have e1 : (y 1 : ℕ) = n := h1
  unfold k0_pay41
  rw [(pay5_at _ _ _).2.2, (pay_at _ _ _ _ _ _).2.2]
  refine entry m c t _ r (j 0) _ (by omega) fun e => ?_
  rw [(ld_w _ _).2.2.1]
  blk_ext [hj1, e1]

theorem final6 (c : Dev nD) : (dats m 0 c).arrAt 6 (cfgs 0).N = (res_v (Z m c) : FVec Ideal S8192x768 .bf16) := by
  refine (dats m 0 c).arrAt_eq_of_covers 6 _ (by decide +kernel) fun t _ y => ?_
  blk_simp
  rw [after0_6]
  refine point6 m c t y _ ?_ ?_ <;> blk_simp [idx t] <;> try omega

theorem point7 (c : Dev nD) (t : Fin cfg0.N) (y : S512x256.Idx) (j : S8192x256.Idx) (hj0 : (j 0 : ℕ) = 512 * t + y 0) (hj1 : (j 1 : ℕ) = y 1) :
    (out0_7 (iblk m c 0 t) (iblk m c 1 t) (iblk m c 2 t) (iblk m c 3 t) : FVec Ideal S512x256 .bf16) y = (res_f (Z m c) : FVec Ideal S8192x256 .bf16) j := by
  have ej : j = ix2 (n0 := 8192) (n1 := 256) (j 0) (j 1) := by funext a; fin_cases a <;> rfl
  refine Eq.trans ?_ (((flat_at (Z m c) (j 0) _ _ (row_of (j 0))).2.2.2.1 (j 1)).symm.trans (congrArg (res_f (Z m c)) ej).symm)
  unfold out0_7
  canon_tiles x h
  obtain ⟨r, n, rfl⟩ : ∃ (r : Fin 512) (n : Fin 256), x = ix2 r n := ⟨x 0, x 1, by funext a; fin_cases a <;> rfl⟩
  have e0 : (y 0 : ℕ) = r := h0
  have e1 : (y 1 : ℕ) = n := h1
  unfold k0_pay39
  rw [pay12_at]
  refine entry m c t _ r (j 0) _ (by omega) fun e => ?_
  rw [(ld_w _ _).2.2.2.1]
  blk_ext [hj1, e1]

theorem final7 (c : Dev nD) : (dats m 0 c).arrAt 7 (cfgs 0).N = (res_f (Z m c) : FVec Ideal S8192x256 .bf16) := by
  refine (dats m 0 c).arrAt_eq_of_covers 7 _ (by decide +kernel) fun t _ y => ?_
  blk_simp
  rw [after0_7]
  refine point7 m c t y _ ?_ ?_ <;> blk_simp [idx t] <;> try omega

theorem point8 (c : Dev nD) (t : Fin cfg0.N) (y : S512x1024.Idx) (j : S8192x1024.Idx) (hj0 : (j 0 : ℕ) = 512 * t + y 0) (hj1 : (j 1 : ℕ) = y 1) :
    (out0_8 (iblk m c 0 t) (iblk m c 1 t) (iblk m c 2 t) (iblk m c 3 t) : FVec Ideal S512x1024 .bf16) y = (res_ga (Z m c) : FVec Ideal S8192x1024 .bf16) j := by
  have ej : j = ix2 (n0 := 8192) (n1 := 1024) (j 0) (j 1) := by funext a; fin_cases a <;> rfl
  refine Eq.trans ?_ (((flat_at (Z m c) (j 0) _ _ (row_of (j 0))).2.2.2.2.1 (j 1)).symm.trans (congrArg (res_ga (Z m c)) ej).symm)
  unfold out0_8
  canon_tiles x h
  obtain ⟨r, n, rfl⟩ : ∃ (r : Fin 512) (n : Fin 1024), x = ix2 r n := ⟨x 0, x 1, by funext a; fin_cases a <;> rfl⟩
  have e0 : (y 0 : ℕ) = r := h0
  have e1 : (y 1 : ℕ) = n := h1
  unfold k0_pay39
  rw [(pay13_at _ _ _ _ _ _).1]
  refine entry m c t _ r (j 0) _ (by omega) fun e => ?_
  rw [(ld_w _ _).2.2.2.2.1]
  blk_ext [hj1, e1]

theorem final8 (c : Dev nD) : (dats m 0 c).arrAt 8 (cfgs 0).N = (res_ga (Z m c) : FVec Ideal S8192x1024 .bf16) := by
  refine (dats m 0 c).arrAt_eq_of_covers 8 _ (by decide +kernel) fun t _ y => ?_
  blk_simp
  rw [after0_8]
  refine point8 m c t y _ ?_ ?_ <;> blk_simp [idx t] <;> try omega

theorem point9 (c : Dev nD) (t : Fin cfg0.N) (y : S512x1024.Idx) (j : S8192x1024.Idx) (hj0 : (j 0 : ℕ) = 512 * t + y 0) (hj1 : (j 1 : ℕ) = y 1) :
    (out0_9 (iblk m c 0 t) (iblk m c 1 t) (iblk m c 2 t) (iblk m c 3 t) : FVec Ideal S512x1024 .bf16) y = (res_gf (Z m c) : FVec Ideal S8192x1024 .bf16) j := by
  have ej : j = ix2 (n0 := 8192) (n1 := 1024) (j 0) (j 1) := by funext a; fin_cases a <;> rfl
  refine Eq.trans ?_ (((flat_at (Z m c) (j 0) _ _ (row_of (j 0))).2.2.2.2.2 (j 1)).symm.trans (congrArg (res_gf (Z m c)) ej).symm)
  unfold out0_9
  canon_tiles x h
  obtain ⟨r, n, rfl⟩ : ∃ (r : Fin 512) (n : Fin 1024), x = ix2 r n := ⟨x 0, x 1, by funext a; fin_cases a <;> rfl⟩
  have e0 : (y 0 : ℕ) = r := h0
  have e1 : (y 1 : ℕ) = n := h1
  unfold k0_pay39
  rw [(pay13_at _ _ _ _ _ _).2]
  refine entry m c t _ r (j 0) _ (by omega) fun e => ?_
  rw [(ld_w _ _).2.2.2.2.2]
  blk_ext [hj1, e1]

theorem final9 (c : Dev nD) : (dats m 0 c).arrAt 9 (cfgs 0).N = (res_gf (Z m c) : FVec Ideal S8192x1024 .bf16) := by
  refine (dats m 0 c).arrAt_eq_of_covers 9 _ (by decide +kernel) fun t _ y => ?_
  blk_simp
  rw [after0_9]
  refine point9 m c t y _ ?_ ?_ <;> blk_simp [idx t] <;> try omega

theorem point10 (c : Dev nD) (t : Fin cfg0.N) (y : S2x1x6x256x128.Idx) (j : S32x1x6x256x128.Idx) (hj0 : (j 0 : ℕ) = 2 * t + y 0)
    (hj2 : (j 2 : ℕ) = y 2) (hj3 : (j 3 : ℕ) = y 3) (hj4 : (j 4 : ℕ) = y 4) :
    (out0_10 (iblk m c 0 t) (iblk m c 1 t) (iblk m c 2 t) (iblk m c 3 t) : FVec Ideal S2x1x6x256x128 .f32) y = (res_ck (Z m c) : FVec Ideal S32x1x6x256x128 .f32) j := by
  have hz : (j 1 : ℕ) = 0 := by have h := (j 1).isLt; change (j 1 : ℕ) < 1 at h; omega
  have ej : j = ix5 (n0 := 32) (n1 := 1) (n2 := 6) (n3 := 256) (n4 := 128) (j 0) 0 (j 2) (j 3) (j 4) := by
    funext a; fin_cases a <;> first | rfl | exact Fin.ext hz
  have b0 : (y 0 : ℕ) < 2 := (y 0).isLt
  have b2 : (y 2 : ℕ) < 6 := (y 2).isLt
  have b3 : (y 3 : ℕ) < 256 := (y 3).isLt
  have b4 : (y 4 : ℕ) < 128 := (y 4).isLt
  refine Eq.trans ?_ (((cache_at (Z m c) (j 0) (j 2) (j 3) (j 4)).1).symm.trans (congrArg (res_ck (Z m c)) ej).symm)
  unfold out0_10 k0_pay40
  refine (Value.canon10_eq _ _ _ _ y).trans ?_
  unfold Value.E10
  have ex : Value.ix10_0 y = ix2 (n0 := 512) (n1 := 768) ⟨256 * (y 0 : ℕ) + (y 3 : ℕ), by omega⟩ ⟨128 * (y 2 : ℕ) + (y 4 : ℕ), by omega⟩ := by
    funext a; fin_cases a <;> refine Fin.ext ?_ <;> simp [Value.ix10_0] <;> omega
  rw [ex, (pay_at _ _ _ _ _ _).2.1]
  refine sum_at m c t _ _ _ _ _ _ _ _ (by simp only; omega) (fun _ => ld_m _ _) (fun _ => ld_x _ _ _) (fun _ => ld_g _ _) fun e => ?_
  rw [(ld_w _ _).2.1]
  blk_ext [hj2, hj4]

theorem final10 (c : Dev nD) : (dats m 0 c).arrAt 10 (cfgs 0).N = (res_ck (Z m c) : FVec Ideal S32x1x6x256x128 .f32) := by
  refine (dats m 0 c).arrAt_eq_of_covers 10 _ (by decide +kernel) fun t _ y => ?_
  blk_simp
  rw [after0_10]
  refine point10 m c t y _ ?_ ?_ ?_ ?_ <;> blk_simp [idx t] <;> try omega

theorem point11 (c : Dev nD) (t : Fin cfg0.N) (y : S2x1x6x256x128.Idx) (j : S32x1x6x256x128.Idx) (hj0 : (j 0 : ℕ) = 2 * t + y 0)
    (hj2 : (j 2 : ℕ) = y 2) (hj3 : (j 3 : ℕ) = y 3) (hj4 : (j 4 : ℕ) = y 4) :
    (out0_11 (iblk m c 0 t) (iblk m c 1 t) (iblk m c 2 t) (iblk m c 3 t) : FVec Ideal S2x1x6x256x128 .f32) y = (res_cv (Z m c) : FVec Ideal S32x1x6x256x128 .f32) j := by
  have hz : (j 1 : ℕ) = 0 := by have h := (j 1).isLt; change (j 1 : ℕ) < 1 at h; omega
  have ej : j = ix5 (n0 := 32) (n1 := 1) (n2 := 6) (n3 := 256) (n4 := 128) (j 0) 0 (j 2) (j 3) (j 4) := by
    funext a; fin_cases a <;> first | rfl | exact Fin.ext hz
  have b0 : (y 0 : ℕ) < 2 := (y 0).isLt
  have b2 : (y 2 : ℕ) < 6 := (y 2).isLt
  have b3 : (y 3 : ℕ) < 256 := (y 3).isLt
  have b4 : (y 4 : ℕ) < 128 := (y 4).isLt
  refine Eq.trans ?_ (((cache_at (Z m c) (j 0) (j 2) (j 3) (j 4)).2).symm.trans (congrArg (res_cv (Z m c)) ej).symm)
  unfold out0_11 k0_pay41
  refine (Value.canon11_eq _ _ _ _ y).trans ?_
  unfold Value.E11
  have ex : Value.ix11_0 y = ix2 (n0 := 512) (n1 := 768) ⟨256 * (y 0 : ℕ) + (y 3 : ℕ), by omega⟩ ⟨128 * (y 2 : ℕ) + (y 4 : ℕ), by omega⟩ := by
    funext a; fin_cases a <;> refine Fin.ext ?_ <;> simp [Value.ix11_0] <;> omega
  rw [ex, (pay_at _ _ _ _ _ _).2.2]
  refine sum_at m c t _ _ _ _ _ _ _ _ (by simp only; omega) (fun _ => ld_m _ _) (fun _ => ld_x _ _ _) (fun _ => ld_g _ _) fun e => ?_
  rw [(ld_w _ _).2.2.1]
  blk_ext [hj2, hj4]

theorem final11 (c : Dev nD) : (dats m 0 c).arrAt 11 (cfgs 0).N = (res_cv (Z m c) : FVec Ideal S32x1x6x256x128 .f32) := by
  refine (dats m 0 c).arrAt_eq_of_covers 11 _ (by decide +kernel) fun t _ y => ?_
  blk_simp
  rw [after0_11]
  refine point11 m c t y _ ?_ ?_ ?_ ?_ <;> blk_simp [idx t] <;> try omega

set_option maxHeartbeats 4000000 in
/-- Kernel and reference end with the same results. -/
theorem algebraic : Cert.algebraic_InprojIdeal_InprojRefIdeal := by
  pair_intro
  · run_from Cert.InprojIdeal.Gen.run_main m g
  · run_from Cert.InprojRefIdeal.Value.run m' g'
    · exact (final4 m c).symm
    · exact (final5 m c).symm
    · exact (final6 m c).symm
    · exact (final7 m c).symm
    · exact (final8 m c).symm
    · exact (final9 m c).symm
    · exact (final10 m c).symm
    · exact (final11 m c).symm

end Cert.InprojIdeal.Final

end
-- ==== Proof.MixGeo.lean ====
/- The rectangles the mixing call stores its modulated rows through: eight strided ones (row 8 n + j for j = 0 … 7), which
   together are the whole output block. -/
module

public import Idealize.ShloMosaic.Lib.Pipeline.ValueKit

@[expose] public section

noncomputable section

namespace Cert.MixGeo

open Idealize.ShloMosaic

/-- The output block. -/
abbrev SBlk : Shape := ⟨2, ![4096, 128]⟩

/-- Pieces among which are the eight strided rectangles cover the block. -/
theorem cover {Val : EltTy → Type} {e : EltTy} (L : List (View.Piece Val SBlk e))
    (h : ∀ j : Fin 8, ∃ p ∈ L, p.1.off = ![j.val, 0] ∧ p.1.size = ![512, 128] ∧ p.1.stride = ![8, 1]) (y : SBlk.Idx) :
    ∃ p ∈ L, y ∈ p.1.set := by
  have y0 : (y 0).val < 4096 := (y 0).isLt
  have y1 : (y 1).val < 128 := (y 1).isLt
  obtain ⟨p, hp, ho, hs, ht⟩ := h ⟨(y 0).val % 8, Nat.mod_lt _ (by decide)⟩
  refine ⟨p, hp, ?_⟩
  rw [LoadRect.mem_set, ho, hs, ht]
  intro a
  match a with
  | ⟨0, _⟩ => exact ⟨(y 0).val / 8, show (y 0).val / 8 < 512 by omega, show (y 0).val = (y 0).val % 8 + 8 * ((y 0).val / 8) by omega⟩
  | ⟨1, _⟩ => exact ⟨(y 1).val, y1, show (y 1).val = 0 + 1 * (y 1).val by omega⟩

end Cert.MixGeo

end
-- ==== Proof.MixRef.lean ====
/- The mixing reference's operations in stages (gated branches, output projection, residual row, modulated row, router's
   affinities), each at an index. -/
module

public import proofs.«01_k».proof.Proof.Gen.MixRefIdeal.Run
public import proofs.«01_k».proof.Proof.InprojRef
public import proofs.«01_k».proof.Proof.AttnMath
public import Idealize.ShloMosaic.Lib.Pointwise
public import Idealize.ShloMosaic.Lib.Pipeline.ValueKit

@[expose] public section

set_option maxRecDepth 16384

noncomputable section

namespace Cert.MixMath

open Idealize Idealize.ShloMosaic Cert.AttnMath

/-- A lane of the two branches, gated and added. -/
def mrg (ga pa gf pf : EReal) : EReal := Ideal.logistic ga * pa + Ideal.logistic gf * pf

/-- A row's inverse root mean square. -/
def irms (y : Fin 1024 → EReal) : EReal :=
  Ideal.rsqrt (Ideal.div (∑ e, y e * y e) (Ideal.ofBits .f32 0x44800000#32) + Ideal.ofBits .f32 0x358637BD#32)

/-- A lane of the residual row: the stream plus the gated norm of the mixed row. -/
def out1 (x y gt g : Fin 1024 → EReal) (d : Fin 1024) : EReal := x d + gt d * (y d * irms y * g d)

/-- The experts' scores on 128 lanes, minus infinity past them. -/
def lanes (z : Fin 16 → EReal) (l : Fin 128) : EReal := if h : (l : ℕ) < 16 then z ⟨l, h⟩ else ⊥

/-- The softmax of 128 lanes. -/
def soft (z : Fin 128 → EReal) (l : Fin 128) : EReal := Ideal.div (Ideal.exp (z l - mx z)) (∑ n, Ideal.exp (z n - mx z))

end Cert.MixMath

namespace Cert.MixRefIdeal.Stage

open Idealize Idealize.ShloMosaic Idealize.SL.Sem Cert.MixRefIdeal Cert.MixRefIdeal.Gen Cert.MixRefIdeal.Facts Cert.MixRefIdeal.Value Cert.MixMath Cert.AttnMath Cert.InprojMath

section
variable {F : FTy → Type} [FloatOps F]

/-- A gate. -/
def sig' (x : FVec F S8192x1024 .f32) : FVec F S8192x1024 .f32 :=
  Host.divf (broadcastInDim S8192x1024 ![] bcast_S_S8192x1024 (constant S_ .f32 0x3F800000#32)) (addf (broadcastInDim S8192x1024 ![] bcast_S_S8192x1024 (constant S_ .f32 0x3F800000#32)) (Host.exp (Host.negf x)))

/-- The gated branches. -/
def merged (o : FVec F S8192x768 .f32) (fm : FVec F S8192x256 .f32) (ga gf : FVec F S8192x1024 .f32) (wpa : FVec F S1x768x1024 .f32) (wpf : FVec F S1x256x1024 .f32) : FVec F S8192x1024 .f32 :=
  addf (mulf (sig' ga) (Host.dotGeneral dot_S8192x768_S768x1024_S8192x1024_1_0_0_1_n_n none o (shapeCast _ wpa shapeCasts_S1x768x1024_S768x1024))) (mulf (sig' gf) (Host.dotGeneral dot_S8192x256_S256x1024_S8192x1024_1_0_0_1_n_n none fm (shapeCast _ wpf shapeCasts_S1x256x1024_S256x1024)))

/-- The output projection. -/
def proj (z : FVec F S8192x1024 .f32) (w : FVec F S1x1024x1024 .f32) : FVec F S8192x1024 .f32 :=
  Host.dotGeneral dot_S8192x1024_S1024x1024_S8192x1024_1_0_0_1_n_n none z (shapeCast _ w shapeCasts_S1x1024x1024_S1024x1024)

/-- Rows over their root mean square, times a gain. -/
def norm (y : FVec F S8192x1024 .f32) (g : FVec F S1x1024 .f32) : FVec F S8192x1024 .f32 :=
  mulf (mulf y (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ g shapeCasts_S1x1024_S1024)))

/-- The six modulation vectors. -/
def vecs (mod : FVec F S8x6144 .f32) : FVec F S1x6x1024 .f32 :=
  shapeCast _ (shapeCast _ (extractStridedSlice S1x6144 ![0, 0] mod slices_S8x6144_S1x6144_0_0) shapeCasts_S1x6144_S6144) shapeCasts_S6144_S1x6x1024

/-- The residual rows. -/
def res0 (x : FVec F S8192x1024 .f32) (mod : FVec F S8x6144 .f32) (g : FVec F S1x1024 .f32) (y : FVec F S8192x1024 .f32) : FVec F S8192x1024 .f32 :=
  addf x (mulf (broadcastInDim S8192x1024 ![0, 1] bcast_S1x1024_S8192x1024_0_1 (shapeCast _ (extractStridedSlice S1x1x1024 ![0, 2, 0] (vecs mod) slices_S1x6x1024_S1x1x1024_0_2_0) shapeCasts_S1x1x1024_S1x1024)) (norm y g))

/-- The modulated rows. -/
def hid (x1 : FVec F S8192x1024 .f32) (mod : FVec F S8x6144 .f32) (g : FVec F S1x1024 .f32) : FVec F S8192x1024 .f32 :=
  addf (mulf (norm x1 g) (broadcastInDim S8192x1024 ![0, 1] bcast_S1x1024_S8192x1024_0_1 (addf (broadcastInDim S1x1024 ![] bcast_S_S1x1024 (constant S_ .f32 0x3F800000#32)) (shapeCast _ (extractStridedSlice S1x1x1024 ![0, 4, 0] (vecs mod) slices_S1x6x1024_S1x1x1024_0_4_0) shapeCasts_S1x1x1024_S1x1024)))) (broadcastInDim S8192x1024 ![0, 1] bcast_S1x1024_S8192x1024_0_1 (shapeCast _ (extractStridedSlice S1x1x1024 ![0, 3, 0] (vecs mod) slices_S1x6x1024_S1x1x1024_0_3_0) shapeCasts_S1x1x1024_S1x1024))

/-- The modulated rows cut in pieces of 128 lanes. -/
def res1 (h : FVec F S8192x1024 .f32) : FVec F S65536x128 .f32 := shapeCast _ h shapeCasts_S8192x1024_S65536x128

/-- The router's scores, padded with minus infinity to 128 lanes. -/
def score (h : FVec F S8192x1024 .f32) (w : FVec F S1x1024x16 .f32) : FVec F S8192x128 .f32 :=
  pad S8192x128 ![0, 0] ![0, 112] ![0, 0] (Host.dotGeneral dot_S8192x1024_S1024x16_S8192x16_1_0_0_1_n_n none h (shapeCast _ w shapeCasts_S1x1024x16_S1024x16)) (id (constant S_ .f32 0xFF800000#32)) pads_S8192x16_S8192x128_000_01120 h_S_

/-- Each row's largest score. -/
def big (z : FVec F S8192x128 .f32) : FVec F S8192 .f32 :=
  maximumf (broadcastInDim S8192 ![] bcast_S_S8192 (constant S_ .f32 0xFF800000#32)) (Host.reduce FloatOps.maximumf z (constant S_ .f32 0xFF800000#32) reducesTo_S8192x128_S8192_d1 h_S_)

/-- The weights. -/
def wgt (z : FVec F S8192x128 .f32) : FVec F S8192x128 .f32 :=
  Host.exp (subf z (broadcastInDim S8192x128 ![0, 1] bcast_S8192x1_S8192x128_0_1 (broadcastInDim S8192x1 ![0] bcast_S8192_S8192x1_0 (big z))))

/-- The affinities. -/
def res2 (z : FVec F S8192x128 .f32) : FVec F S8192x128 .f32 :=
  Host.divf (wgt z) (broadcastInDim S8192x128 ![0, 1] bcast_S8192x1_S8192x128_0_1 (broadcastInDim S8192x1 ![0] bcast_S8192_S8192x1_0 (Host.reduceAdd (wgt z) (constant S_ .f32 0x00000000#32) reducesTo_S8192x128_S8192_d1 h_S_)))

end

theorem merged_at (o : FVec Ideal S8192x768 .f32) (fm : FVec Ideal S8192x256 .f32) (ga gf : FVec Ideal S8192x1024 .f32) (wpa : FVec Ideal S1x768x1024 .f32) (wpf : FVec Ideal S1x256x1024 .f32)
    (r : Fin 8192) (d : Fin 1024) :
    merged o fm ga gf wpa wpf (ix2 r d) = mrg (ga (ix2 r d)) (∑ k, o (ix2 r k) * wpa (ix3 0 k d)) (gf (ix2 r d)) (∑ k, fm (ix2 r k) * wpf (ix3 0 k d)) := by
  pointwise [merged, sig']
  rfl

theorem proj_at (z : FVec Ideal S8192x1024 .f32) (w : FVec Ideal S1x1024x1024 .f32) (r : Fin 8192) (d : Fin 1024) :
    proj z w (ix2 r d) = ∑ k, z (ix2 r k) * w (ix3 0 k d) := by
  pointwise [proj]

theorem norm_at (y : FVec Ideal S8192x1024 .f32) (g : FVec Ideal S1x1024 .f32) (r : Fin 8192) (d : Fin 1024) :
    norm y g (ix2 r d) = y (ix2 r d) * irms (fun e => y (ix2 r e)) * g (ix2 0 d) := by
  pointwise [norm]
  rfl

theorem vecs_at (mod : FVec Ideal S8x6144 .f32) (i : Fin 6) (e : Fin 1024) : vecs mod (ix3 0 i e) = mod (ix2 0 (at6 i e)) := by
  pointwise [vecs]
  blk_ext [at6]

theorem res0_at (x : FVec Ideal S8192x1024 .f32) (mod : FVec Ideal S8x6144 .f32) (g : FVec Ideal S1x1024 .f32) (y : FVec Ideal S8192x1024 .f32) (r : Fin 8192) (d : Fin 1024) :
    res0 x mod g y (ix2 r d) = out1 (fun e => x (ix2 r e)) (fun e => y (ix2 r e)) (fun e => mod (ix2 0 (at6 2 e))) (fun e => g (ix2 0 e)) d := by
  pointwise [res0, norm_at]
  simp [out1, vecs_at]

theorem hid_at (x1 : FVec Ideal S8192x1024 .f32) (mod : FVec Ideal S8x6144 .f32) (g : FVec Ideal S1x1024 .f32) (r : Fin 8192) (d : Fin 1024) :
    hid x1 mod g (ix2 r d) = row (fun e => x1 (ix2 r e)) (fun e => mod (ix2 0 (at6 3 e))) (fun e => mod (ix2 0 (at6 4 e))) (fun e => g (ix2 0 e)) d := by
  pointwise [hid, norm_at]
  simp [row, irms, vecs_at]

theorem res1_at (h : FVec Ideal S8192x1024 .f32) (r : Fin 65536) (l : Fin 128) :
    res1 h (ix2 r l) = h (ix2 ⟨r / 8, by omega⟩ ⟨r % 8 * 128 + l, by omega⟩) := by
  pointwise [res1]
  blk_ext

theorem score_at (h : FVec Ideal S8192x1024 .f32) (w : FVec Ideal S1x1024x16 .f32) (r : Fin 8192) (l : Fin 128) :
    score h w (ix2 r l) = lanes (fun n => ∑ d, h (ix2 r d) * w (ix3 0 d n)) l := by
  unfold lanes
  split_ifs with hl
  · pointwise [score]
    rw [dif_pos (by exact hl)]
  · pointwise [score]
    rw [dif_neg (by exact hl)]
    exact ofBits_neg_inf

theorem big_at (z : FVec Ideal S8192x128 .f32) (r : Fin 8192) : big z (ix1 r) = mx fun n => z (ix2 r n) := by
  pointwise [big]
  rw [ofBits_neg_inf]
  exact max_eq_right bot_le

theorem wgt_at (z : FVec Ideal S8192x128 .f32) (r : Fin 8192) (n : Fin 128) :
    wgt z (ix2 r n) = Ideal.exp (z (ix2 r n) - mx fun n => z (ix2 r n)) := by
  pointwise [wgt, big_at]

theorem res2_at (z : FVec Ideal S8192x128 .f32) (r : Fin 8192) (n : Fin 128) : res2 z (ix2 r n) = soft (fun n => z (ix2 r n)) n := by
  pointwise [res2, wgt_at]
  rfl

end Cert.MixRefIdeal.Stage

end
-- ==== Proof.MixIdealBody.lean ====
/- The frame of the mixing program (`Cert.MixIdeal`): what its three output buffers hold after each grid point, the body's
   run, and the frame read off the pipeline's run. -/
module

public import proofs.«01_k».proof.Proof.MixGeo
public import proofs.«01_k».proof.Proof.Gen.MixIdeal.Frame
public import proofs.«01_k».proof.Proof.Gen.MixIdeal.Launch
public import proofs.«01_k».proof.Proof.Gen.MixIdeal.Skeleton
public import proofs.«01_k».proof.Proof.Gen.MixIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.MixIdeal.Body

open Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The body's accesses -/

abbrev r0_0 : Rect S1x1x6144 := Rect.unit (s := S1x1x6144) ![0, 0, 0] S1x1x6144.size inb_S1x1x6144_S1x1x6144_0_0_0
abbrev r0_1 : Rect S512x768 := Rect.unit (s := S512x768) ![0, 0] S512x768.size inb_S512x768_S512x768_0_0
abbrev r0_2 : Rect S768x1024 := Rect.unit (s := S768x1024) ![0, 0] S768x1024.size inb_S768x1024_S768x1024_0_0
abbrev r0_3 : Rect S512x256 := Rect.unit (s := S512x256) ![0, 0] S512x256.size inb_S512x256_S512x256_0_0
abbrev r0_4 : Rect S256x1024 := Rect.unit (s := S256x1024) ![0, 0] S256x1024.size inb_S256x1024_S256x1024_0_0
abbrev r0_5 : Rect S512x1024 := Rect.unit (s := S512x1024) ![0, 0] S512x1024.size inb_S512x1024_S512x1024_0_0
abbrev r0_6 : Rect S1024x1024 := Rect.unit (s := S1024x1024) ![0, 0] S1024x1024.size inb_S1024x1024_S1024x1024_0_0
abbrev r0_7 : Rect S1x1024 := Rect.unit (s := S1x1024) ![0, 0] S1x1024.size inb_S1x1024_S1x1024_0_0
abbrev r0_8 : Rect S4096x128 := ⟨(⟨![0, 0], S512x128.size, ![8, 1], inb_S4096x128_S512x128_0_0_s_8_1⟩ : LoadRect S4096x128), spos_8_1⟩
abbrev r0_9 : Rect S4096x128 := ⟨(⟨![1, 0], S512x128.size, ![8, 1], inb_S4096x128_S512x128_1_0_s_8_1⟩ : LoadRect S4096x128), spos_8_1⟩
abbrev r0_10 : Rect S4096x128 := ⟨(⟨![2, 0], S512x128.size, ![8, 1], inb_S4096x128_S512x128_2_0_s_8_1⟩ : LoadRect S4096x128), spos_8_1⟩
abbrev r0_11 : Rect S4096x128 := ⟨(⟨![3, 0], S512x128.size, ![8, 1], inb_S4096x128_S512x128_3_0_s_8_1⟩ : LoadRect S4096x128), spos_8_1⟩
abbrev r0_12 : Rect S4096x128 := ⟨(⟨![4, 0], S512x128.size, ![8, 1], inb_S4096x128_S512x128_4_0_s_8_1⟩ : LoadRect S4096x128), spos_8_1⟩
abbrev r0_13 : Rect S4096x128 := ⟨(⟨![5, 0], S512x128.size, ![8, 1], inb_S4096x128_S512x128_5_0_s_8_1⟩ : LoadRect S4096x128), spos_8_1⟩
abbrev r0_14 : Rect S4096x128 := ⟨(⟨![6, 0], S512x128.size, ![8, 1], inb_S4096x128_S512x128_6_0_s_8_1⟩ : LoadRect S4096x128), spos_8_1⟩
abbrev r0_15 : Rect S4096x128 := ⟨(⟨![7, 0], S512x128.size, ![8, 1], inb_S4096x128_S512x128_7_0_s_8_1⟩ : LoadRect S4096x128), spos_8_1⟩
abbrev r0_16 : Rect S1024x128 := Rect.unit (s := S1024x128) ![0, 0] S1024x128.size inb_S1024x128_S1024x128_0_0
abbrev r0_17 : Rect S512x128 := Rect.unit (s := S512x128) ![0, 0] S512x128.size inb_S512x128_S512x128_0_0

/-! ## What the body leaves in each output window's buffer -/

/-! ### Values of the body that the stores' payloads, spelt out, would write more than once

    Each is a vector the body binds, stated over the input windows' blocks and numbered on from the skeleton's payloads;
    the comment after each is the printed function's name for the value. -/

def k0_pay18 (x0 : Vec F S512x768 .bf16) (x1 : Vec F S512x256 .bf16) (x2 : Vec F S512x1024 .bf16) (x3 : Vec F S512x1024 .bf16) (x4 : Vec F S512x1024 .f32) (x5 : Vec F S1x1x6144 .f32) (x6 : Vec F S1x1024 .f32) (x7 : Vec F S1x1024 .f32) (x8 : Vec F S768x1024 .f32) (x9 : Vec F S256x1024 .f32) (x10 : Vec F S1024x1024 .f32) (x11 : Vec F S1024x128 .bf16) : FVec F S1x1024 .f32 :=
  k0_pay8 (View.ld x5 r0_0) -- `v2`
def k0_pay19 (x0 : Vec F S512x768 .bf16) (x1 : Vec F S512x256 .bf16) (x2 : Vec F S512x1024 .bf16) (x3 : Vec F S512x1024 .bf16) (x4 : Vec F S512x1024 .f32) (x5 : Vec F S1x1x6144 .f32) (x6 : Vec F S1x1024 .f32) (x7 : Vec F S1x1024 .f32) (x8 : Vec F S768x1024 .f32) (x9 : Vec F S256x1024 .f32) (x10 : Vec F S1024x1024 .f32) (x11 : Vec F S1024x128 .bf16) : FVec F S1x1024 .f32 :=
  k0_pay9 (View.ld x5 r0_0) -- `v3`
def k0_pay20 (x0 : Vec F S512x768 .bf16) (x1 : Vec F S512x256 .bf16) (x2 : Vec F S512x1024 .bf16) (x3 : Vec F S512x1024 .bf16) (x4 : Vec F S512x1024 .f32) (x5 : Vec F S1x1x6144 .f32) (x6 : Vec F S1x1024 .f32) (x7 : Vec F S1x1024 .f32) (x8 : Vec F S768x1024 .f32) (x9 : Vec F S256x1024 .f32) (x10 : Vec F S1024x1024 .f32) (x11 : Vec F S1024x128 .bf16) : FVec F S1x1024 .f32 :=
  k0_pay10 (View.ld x5 r0_0) -- `v4`
def k0_pay21 (x0 : Vec F S512x768 .bf16) (x1 : Vec F S512x256 .bf16) (x2 : Vec F S512x1024 .bf16) (x3 : Vec F S512x1024 .bf16) (x4 : Vec F S512x1024 .f32) (x5 : Vec F S1x1x6144 .f32) (x6 : Vec F S1x1024 .f32) (x7 : Vec F S1x1024 .f32) (x8 : Vec F S768x1024 .f32) (x9 : Vec F S256x1024 .f32) (x10 : Vec F S1024x1024 .f32) (x11 : Vec F S1024x128 .bf16) : FVec F S512x1024 .f32 :=
  k0_pay11 (View.ld x0 r0_1) (View.ld x8 r0_2) (View.ld x1 r0_3) (View.ld x9 r0_4) (View.ld x2 r0_5) (View.ld x3 r0_5) (View.ld x10 r0_6) -- `v32`
def k0_pay22 (x0 : Vec F S512x768 .bf16) (x1 : Vec F S512x256 .bf16) (x2 : Vec F S512x1024 .bf16) (x3 : Vec F S512x1024 .bf16) (x4 : Vec F S512x1024 .f32) (x5 : Vec F S1x1x6144 .f32) (x6 : Vec F S1x1024 .f32) (x7 : Vec F S1x1024 .f32) (x8 : Vec F S768x1024 .f32) (x9 : Vec F S256x1024 .f32) (x10 : Vec F S1024x1024 .f32) (x11 : Vec F S1024x128 .bf16) : FVec F S512 .f32 :=
  k0_pay12 (View.ld x0 r0_1) (View.ld x8 r0_2) (View.ld x1 r0_3) (View.ld x9 r0_4) (View.ld x2 r0_5) (View.ld x3 r0_5) (View.ld x10 r0_6) -- `v35`
def k0_pay23 (x0 : Vec F S512x768 .bf16) (x1 : Vec F S512x256 .bf16) (x2 : Vec F S512x1024 .bf16) (x3 : Vec F S512x1024 .bf16) (x4 : Vec F S512x1024 .f32) (x5 : Vec F S1x1x6144 .f32) (x6 : Vec F S1x1024 .f32) (x7 : Vec F S1x1024 .f32) (x8 : Vec F S768x1024 .f32) (x9 : Vec F S256x1024 .f32) (x10 : Vec F S1024x1024 .f32) (x11 : Vec F S1024x128 .bf16) : FVec F S512x1024 .f32 :=
  k0_pay14 (k0_pay18 x0 x1 x2 x3 x4 x5 x6 x7 x8 x9 x10 x11) (k0_pay19 x0 x1 x2 x3 x4 x5 x6 x7 x8 x9 x10 x11) (k0_pay20 x0 x1 x2 x3 x4 x5 x6 x7 x8 x9 x10 x11) (k0_pay21 x0 x1 x2 x3 x4 x5 x6 x7 x8 x9 x10 x11) (View.ld x4 r0_5) (k0_pay22 x0 x1 x2 x3 x4 x5 x6 x7 x8 x9 x10 x11) (View.ld x6 r0_7) (View.ld x7 r0_7) -- `v67`

/-- Window 12's staging buffer after the body, from the input windows' blocks: its 1 store as pieces, LAST
    FIRST (Lib/Pipeline/FrameBody.lean `View.canon`; the payloads are the skeleton's and the values stated above). -/
def out0_12 (x0 : Vec F S512x768 .bf16) (x1 : Vec F S512x256 .bf16) (x2 : Vec F S512x1024 .bf16) (x3 : Vec F S512x1024 .bf16) (x4 : Vec F S512x1024 .f32) (x5 : Vec F S1x1x6144 .f32) (x6 : Vec F S1x1024 .f32) (x7 : Vec F S1x1024 .f32) (x8 : Vec F S768x1024 .f32) (x9 : Vec F S256x1024 .f32) (x10 : Vec F S1024x1024 .f32) (x11 : Vec F S1024x128 .bf16) : Vec F S512x1024 .f32 :=
  View.canon [⟨r0_5, k0_pay13 (k0_pay18 x0 x1 x2 x3 x4 x5 x6 x7 x8 x9 x10 x11) (k0_pay21 x0 x1 x2 x3 x4 x5 x6 x7 x8 x9 x10 x11) (View.ld x4 r0_5) (k0_pay22 x0 x1 x2 x3 x4 x5 x6 x7 x8 x9 x10 x11) (View.ld x6 r0_7)⟩]

/-- Its stores tile the buffer (checked by evaluation), so they cover it. -/
theorem cover0_12 (p0 : Vec F S512x1024 .f32) (y : S512x1024.Idx) :
    ∃ pc ∈ ([⟨r0_5, p0⟩] : List (View.Piece (Elt F) S512x1024 .f32)), y ∈ pc.1.set :=
  View.cover_of_tiled [⟨r0_5, p0⟩] S512x1024.size (by rfl) y

/-- Window 13's staging buffer after the body, from the input windows' blocks: its 8 stores as pieces, LAST
    FIRST (Lib/Pipeline/FrameBody.lean `View.canon`; the payloads are the skeleton's and the values stated above). -/
def out0_13 (x0 : Vec F S512x768 .bf16) (x1 : Vec F S512x256 .bf16) (x2 : Vec F S512x1024 .bf16) (x3 : Vec F S512x1024 .bf16) (x4 : Vec F S512x1024 .f32) (x5 : Vec F S1x1x6144 .f32) (x6 : Vec F S1x1024 .f32) (x7 : Vec F S1x1024 .f32) (x8 : Vec F S768x1024 .f32) (x9 : Vec F S256x1024 .f32) (x10 : Vec F S1024x1024 .f32) (x11 : Vec F S1024x128 .bf16) : Vec F S4096x128 .f32 :=
  View.canon [⟨r0_15, k0_pay5 (k0_pay23 x0 x1 x2 x3 x4 x5 x6 x7 x8 x9 x10 x11)⟩,
    ⟨r0_14, k0_pay4 (k0_pay23 x0 x1 x2 x3 x4 x5 x6 x7 x8 x9 x10 x11)⟩,
    ⟨r0_13, k0_pay3 (k0_pay23 x0 x1 x2 x3 x4 x5 x6 x7 x8 x9 x10 x11)⟩,
    ⟨r0_12, k0_pay2 (k0_pay23 x0 x1 x2 x3 x4 x5 x6 x7 x8 x9 x10 x11)⟩,
    ⟨r0_11, k0_pay1 (k0_pay23 x0 x1 x2 x3 x4 x5 x6 x7 x8 x9 x10 x11)⟩,
    ⟨r0_10, k0_pay17 (k0_pay18 x0 x1 x2 x3 x4 x5 x6 x7 x8 x9 x10 x11) (k0_pay19 x0 x1 x2 x3 x4 x5 x6 x7 x8 x9 x10 x11) (k0_pay20 x0 x1 x2 x3 x4 x5 x6 x7 x8 x9 x10 x11) (k0_pay21 x0 x1 x2 x3 x4 x5 x6 x7 x8 x9 x10 x11) (View.ld x4 r0_5) (k0_pay22 x0 x1 x2 x3 x4 x5 x6 x7 x8 x9 x10 x11) (View.ld x6 r0_7) (View.ld x7 r0_7)⟩,
    ⟨r0_9, k0_pay16 (k0_pay18 x0 x1 x2 x3 x4 x5 x6 x7 x8 x9 x10 x11) (k0_pay19 x0 x1 x2 x3 x4 x5 x6 x7 x8 x9 x10 x11) (k0_pay20 x0 x1 x2 x3 x4 x5 x6 x7 x8 x9 x10 x11) (k0_pay21 x0 x1 x2 x3 x4 x5 x6 x7 x8 x9 x10 x11) (View.ld x4 r0_5) (k0_pay22 x0 x1 x2 x3 x4 x5 x6 x7 x8 x9 x10 x11) (View.ld x6 r0_7) (View.ld x7 r0_7)⟩,
    ⟨r0_8, k0_pay15 (k0_pay18 x0 x1 x2 x3 x4 x5 x6 x7 x8 x9 x10 x11) (k0_pay19 x0 x1 x2 x3 x4 x5 x6 x7 x8 x9 x10 x11) (k0_pay20 x0 x1 x2 x3 x4 x5 x6 x7 x8 x9 x10 x11) (k0_pay21 x0 x1 x2 x3 x4 x5 x6 x7 x8 x9 x10 x11) (View.ld x4 r0_5) (k0_pay22 x0 x1 x2 x3 x4 x5 x6 x7 x8 x9 x10 x11) (View.ld x6 r0_7) (View.ld x7 r0_7)⟩]

/-- Its eight strided stores cover the buffer. -/
theorem cover0_13 (p0 : Vec F S512x128 .f32) (p1 : Vec F S512x128 .f32) (p2 : Vec F S512x128 .f32) (p3 : Vec F S512x128 .f32) (p4 : Vec F S512x128 .f32) (p5 : Vec F S512x128 .f32) (p6 : Vec F S512x128 .f32) (p7 : Vec F S512x128 .f32) (y : S4096x128.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩] : List (View.Piece (Elt F) S4096x128 .f32)), y ∈ pc.1.set :=
  Cert.MixGeo.cover [⟨r0_15, p0⟩, ⟨r0_14, p1⟩, ⟨r0_13, p2⟩, ⟨r0_12, p3⟩, ⟨r0_11, p4⟩, ⟨r0_10, p5⟩, ⟨r0_9, p6⟩, ⟨r0_8, p7⟩]
    (fun j => match j with
    | ⟨0, _⟩ => ⟨_, List.mem_of_getElem? (i := 7) rfl, rfl, rfl, rfl⟩
    | ⟨1, _⟩ => ⟨_, List.mem_of_getElem? (i := 6) rfl, rfl, rfl, rfl⟩
    | ⟨2, _⟩ => ⟨_, List.mem_of_getElem? (i := 5) rfl, rfl, rfl, rfl⟩
    | ⟨3, _⟩ => ⟨_, List.mem_of_getElem? (i := 4) rfl, rfl, rfl, rfl⟩
    | ⟨4, _⟩ => ⟨_, List.mem_of_getElem? (i := 3) rfl, rfl, rfl, rfl⟩
    | ⟨5, _⟩ => ⟨_, List.mem_of_getElem? (i := 2) rfl, rfl, rfl, rfl⟩
    | ⟨6, _⟩ => ⟨_, List.mem_of_getElem? (i := 1) rfl, rfl, rfl, rfl⟩
    | ⟨7, _⟩ => ⟨_, List.mem_of_getElem? (i := 0) rfl, rfl, rfl, rfl⟩) y

/-- Window 14's staging buffer after the body, from the input windows' blocks: its 1 store as pieces, LAST
    FIRST (Lib/Pipeline/FrameBody.lean `View.canon`; the payloads are the skeleton's and the values stated above). -/
def out0_14 (x0 : Vec F S512x768 .bf16) (x1 : Vec F S512x256 .bf16) (x2 : Vec F S512x1024 .bf16) (x3 : Vec F S512x1024 .bf16) (x4 : Vec F S512x1024 .f32) (x5 : Vec F S1x1x6144 .f32) (x6 : Vec F S1x1024 .f32) (x7 : Vec F S1x1024 .f32) (x8 : Vec F S768x1024 .f32) (x9 : Vec F S256x1024 .f32) (x10 : Vec F S1024x1024 .f32) (x11 : Vec F S1024x128 .bf16) : Vec F S512x128 .f32 :=
  View.canon [⟨r0_17, k0_pay6 (k0_pay23 x0 x1 x2 x3 x4 x5 x6 x7 x8 x9 x10 x11) (View.ld x11 r0_16)⟩]

/-- Its stores tile the buffer (checked by evaluation), so they cover it. -/
theorem cover0_14 (p0 : Vec F S512x128 .f32) (y : S512x128.Idx) :
    ∃ pc ∈ ([⟨r0_17, p0⟩] : List (View.Piece (Elt F) S512x128 .f32)), y ∈ pc.1.set :=
  View.cover_of_tiled [⟨r0_17, p0⟩] S512x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x768 .bf16) (harg1 : arg1.IsWhole) (arg2 : Memref sig .tc .vmem S512x256 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1x6144 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S768x1024 .f32) (harg9 : arg9.IsWhole) (arg10 : Memref sig .tc .vmem S256x1024 .f32) (harg10 : arg10.IsWhole) (arg11 : Memref sig .tc .vmem S1024x1024 .f32) (harg11 : arg11.IsWhole) (arg12 : Memref sig .tc .vmem S1024x128 .bf16) (harg12 : arg12.IsWhole) (arg13 : Memref sig .tc .vmem S512x1024 .f32) (harg13 : arg13.IsWhole) (arg14 : Memref sig .tc .vmem S4096x128 .f32) (harg14 : arg14.IsWhole) (arg15 : Memref sig .tc .vmem S512x128 .f32) (harg15 : arg15.IsWhole)
    (x0 : Vec F S512x768 .bf16) (x1 : Vec F S512x256 .bf16) (x2 : Vec F S512x1024 .bf16) (x3 : Vec F S512x1024 .bf16) (x4 : Vec F S512x1024 .f32) (x5 : Vec F S1x1x6144 .f32) (x6 : Vec F S1x1024 .f32) (x7 : Vec F S1x1024 .f32) (x8 : Vec F S768x1024 .f32) (x9 : Vec F S256x1024 .f32) (x10 : Vec F S1024x1024 .f32) (x11 : Vec F S1024x128 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11) ∗ owns (c : Thread nD τ) arg15 fullShare (out0_14 x0 x1 x2 x3 x4 x5 x6 x7 x8 x9 x10 x11)) -∗ K ⟨⟩))
      ⊢ wp frame (wpE (defs₀ (F := F)) Variants.none c none) E (cc0_mix_out_router i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mix_out_router_eq_skeleton]; unfold cc0_mix_out_router_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _ _ _ _ _ _ _ _)).trans ?_
    rfl
  iexists _; isplitr
  swap; · iexact H14
  ipureintro
  refine (View.read_writes_eq_canon _ _ _ (cover0_14 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame: the run ends with every argument array as it began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.MixIdeal.Body

end
-- ==== Proof.MixPay.lean ====
/- The mixing kernel's payloads at an index. -/
module

public import proofs.«01_k».proof.Proof.MixRef
public import proofs.«01_k».proof.Proof.FfnRef
public import proofs.«01_k».proof.Proof.MixIdealBody
public import Idealize.ShloMosaic.Lib.Claim
public import Idealize.ShloMosaic.Lib.Pointwise
public import Idealize.ShloMosaic.Lib.Pipeline.ValueKit

@[expose] public section

set_option maxRecDepth 16384

noncomputable section

namespace Cert.MixIdeal.Final

open Idealize Idealize.ShloMosaic Idealize.SL.Sem Cert.MixIdeal Cert.MixIdeal.Gen Cert.MixIdeal.Body Cert.MixMath Cert.AttnMath Cert.InprojMath

/-- The mask is minus infinity. -/
theorem mask_eq : (Named.named κ "mask" 0xF149F2CA#32 : Ideal FTy.f32) = ⊥ := rfl

/-- Lanes selected by number are the experts' scores followed by minus infinity. -/
theorem select_lanes (z : Fin 128 → EReal) (l : Fin 128) :
    Scalar.select (IntOp.cmpi CmpIPredicate.slt (BitVec.ofNat 32 l) 16#32) (z l) ⊥ = lanes (fun n => z ⟨n, by omega⟩) l := by
  rw [Cert.FfnMath.select_experts]
  unfold lanes
  split_ifs <;> rfl

/-- The modulation vectors the call reads. -/
theorem pay8_at (v : Vec Ideal S1x1x6144 .f32) (e : Fin 1024) :
    k0_pay8 v (ix2 0 e) = v (ix3 0 0 (at6 2 e)) ∧ k0_pay9 v (ix2 0 e) = v (ix3 0 0 (at6 3 e)) ∧ k0_pay10 v (ix2 0 e) = v (ix3 0 0 (at6 4 e)) := by
  refine ⟨?_, ?_, ?_⟩
  · pointwise [k0_pay8, k0_pay7]
    blk_ext [at6]
  · pointwise [k0_pay9, k0_pay7]
    blk_ext [at6]
  · pointwise [k0_pay10, k0_pay7]
    blk_ext [at6]

/-- The mixed rows. -/
theorem pay11_at (o : Vec Ideal S512x768 .bf16) (wa : Vec Ideal S768x1024 .f32) (f : Vec Ideal S512x256 .bf16) (wf : Vec Ideal S256x1024 .f32)
    (ga gf : Vec Ideal S512x1024 .bf16) (w : Vec Ideal S1024x1024 .f32) (r : Fin 512) (d : Fin 1024) :
    k0_pay11 o wa f wf ga gf w (ix2 r d)
      = ∑ k, mrg (ga (ix2 r k)) (∑ e, o (ix2 r e) * wa (ix2 e k)) (gf (ix2 r k)) (∑ e, f (ix2 r e) * wf (ix2 e k)) * w (ix2 k d) := by
  pointwise [k0_pay11]
  rfl

theorem pay12_at (o : Vec Ideal S512x768 .bf16) (wa : Vec Ideal S768x1024 .f32) (f : Vec Ideal S512x256 .bf16) (wf : Vec Ideal S256x1024 .f32)
    (ga gf : Vec Ideal S512x1024 .bf16) (w : Vec Ideal S1024x1024 .f32) (r : Fin 512) :
    k0_pay12 o wa f wf ga gf w (ix1 r) = ∑ e, k0_pay11 o wa f wf ga gf w (ix2 r e) * k0_pay11 o wa f wf ga gf w (ix2 r e) := by
  pointwise [k0_pay12]

theorem pay13_at (gt : FVec Ideal S1x1024 .f32) (y : FVec Ideal S512x1024 .f32) (x : Vec Ideal S512x1024 .f32) (q : FVec Ideal S512 .f32) (g : Vec Ideal S1x1024 .f32)
    (r : Fin 512) (d : Fin 1024) (hq : q (ix1 r) = ∑ e, y (ix2 r e) * y (ix2 r e)) :
    k0_pay13 gt y x q g (ix2 r d) = out1 (fun e => x (ix2 r e)) (fun e => y (ix2 r e)) (fun e => gt (ix2 0 e)) (fun e => g (ix2 0 e)) d := by
  pointwise [k0_pay13]
  rw [hq]
  exact congrArg (fun v : EReal => x (ix2 r d) + v) (mul_left_comm _ _ _)

theorem pay14_at (gt sh sc : FVec Ideal S1x1024 .f32) (y : FVec Ideal S512x1024 .f32) (x : Vec Ideal S512x1024 .f32) (q : FVec Ideal S512 .f32) (g g' : Vec Ideal S1x1024 .f32)
    (r : Fin 512) (d : Fin 1024) :
    k0_pay14 gt sh sc y x q g g' (ix2 r d)
      = row (fun e => k0_pay13 gt y x q g (ix2 r e)) (fun e => sh (ix2 0 e)) (fun e => sc (ix2 0 e)) (fun e => g' (ix2 0 e)) d := by
  pointwise [k0_pay14]
  rw [← mul_assoc]
  simp [row]

theorem pay6_at (h : FVec Ideal S512x1024 .f32) (w : Vec Ideal S1024x128 .bf16) (r : Fin 512) (l : Fin 128) :
    k0_pay6 h w (ix2 r l) = soft (lanes fun n => ∑ k, h (ix2 r k) * w (ix2 k ⟨n, by omega⟩)) l := by
  pointwise [k0_pay6]
  rw [mask_eq, ofBits_neg_inf]
  simp only [select_lanes fun l => ∑ k, h (ix2 r k) * w (ix2 k l)]
  rfl

theorem pay1_at (T : FVec Ideal S512x1024 .f32) (s : Fin 512) (l : Fin 128) : k0_pay1 T (ix2 s l) = T (ix2 s ⟨128 * 3 + l, by omega⟩) := by
  pointwise [k0_pay1]
  blk_ext

theorem pay2_at (T : FVec Ideal S512x1024 .f32) (s : Fin 512) (l : Fin 128) : k0_pay2 T (ix2 s l) = T (ix2 s ⟨128 * 4 + l, by omega⟩) := by
  pointwise [k0_pay2]
  blk_ext

theorem pay3_at (T : FVec Ideal S512x1024 .f32) (s : Fin 512) (l : Fin 128) : k0_pay3 T (ix2 s l) = T (ix2 s ⟨128 * 5 + l, by omega⟩) := by
  pointwise [k0_pay3]
  blk_ext

theorem pay4_at (T : FVec Ideal S512x1024 .f32) (s : Fin 512) (l : Fin 128) : k0_pay4 T (ix2 s l) = T (ix2 s ⟨128 * 6 + l, by omega⟩) := by
  pointwise [k0_pay4]
  blk_ext

theorem pay5_at (T : FVec Ideal S512x1024 .f32) (s : Fin 512) (l : Fin 128) : k0_pay5 T (ix2 s l) = T (ix2 s ⟨128 * 7 + l, by omega⟩) := by
  pointwise [k0_pay5]
  blk_ext

theorem pay15_at (gt sh sc : FVec Ideal S1x1024 .f32) (y : FVec Ideal S512x1024 .f32) (x : Vec Ideal S512x1024 .f32) (q : FVec Ideal S512 .f32) (g g' : Vec Ideal S1x1024 .f32)
    (s : Fin 512) (l : Fin 128) :
    k0_pay15 gt sh sc y x q g g' (ix2 s l) = k0_pay14 gt sh sc y x q g g' (ix2 s ⟨128 * 0 + l, by omega⟩)
      ∧ k0_pay16 gt sh sc y x q g g' (ix2 s l) = k0_pay14 gt sh sc y x q g g' (ix2 s ⟨128 * 1 + l, by omega⟩)
      ∧ k0_pay17 gt sh sc y x q g g' (ix2 s l) = k0_pay14 gt sh sc y x q g g' (ix2 s ⟨128 * 2 + l, by omega⟩) := by
  refine ⟨?_, ?_, ?_⟩
  · unfold k0_pay15
    generalize k0_pay14 gt sh sc y x q g g' = T
    pointwise
    blk_ext
  · unfold k0_pay16
    generalize k0_pay14 gt sh sc y x q g g' = T
    pointwise
    blk_ext
  · unfold k0_pay17
    generalize k0_pay14 gt sh sc y x q g g' = T
    pointwise
    blk_ext

/-- The piece whose rows are the rows with remainder `j` by 8 holds there the columns from `128 j` of the block the kernel splits. -/
theorem strided_at (j : ℕ) (hj : j < 8) (inb) (sp) (q : Vec Ideal S512x128 .f32) (T : FVec Ideal S512x1024 .f32)
    (hq : ∀ (s : Fin 512) (l : Fin 128), q (ix2 s l) = T (ix2 s ⟨128 * j + l, by omega⟩)) (r : Fin 4096) (l : Fin 128) (v : EReal)
    (hv : T (ix2 ⟨r / 8, by omega⟩ ⟨r % 8 * 128 + l, by omega⟩) = v) :
    View.RectAt (S := S4096x128) (Val := Elt Ideal) (e := .f32) (ix2 r l) ⟨⟨![j, 0], S512x128.size, ![8, 1], inb⟩, sp⟩ q v := by
  intro x hx
  obtain ⟨s, n, rfl⟩ : ∃ (s : Fin 512) (n : Fin 128), x = ix2 s n := ⟨x 0, x 1, by funext a; fin_cases a <;> rfl⟩
  have e1 : j + 8 * (s : ℕ) = r := congrArg (fun y : S4096x128.Idx => (y 0 : ℕ)) hx
  have e2 : 0 + 1 * (n : ℕ) = l := congrArg (fun y : S4096x128.Idx => (y 1 : ℕ)) hx
  rw [hq, ← hv]
  congr 2 <;> apply Fin.ext <;> simp only <;> omega

end Cert.MixIdeal.Final

end
-- ==== Proof.MixBlk.lean ====
/- The mixing kernel's blocks at an index. -/
module

public import proofs.«01_k».proof.Proof.MixIdealBody
public import Idealize.ShloMosaic.Lib.Claim
public import Idealize.ShloMosaic.Lib.Pointwise
public import Idealize.ShloMosaic.Lib.Pipeline.ValueKit

@[expose] public section

set_option maxRecDepth 16384

noncomputable section

namespace Cert.MixIdeal.Final

open Idealize Idealize.ShloMosaic Idealize.SL.Sem Cert.MixIdeal Cert.MixIdeal.Gen Cert.MixIdeal.Body

variable (m : (ℓ : Loc nD τ sig) → Buf (Elt Ideal) ℓ)

theorem idx : ∀ t : Fin cfg0.N, (win0_0.index t = ![t.val, 0] ∧ win0_1.index t = ![t.val, 0] ∧ win0_2.index t = ![t.val, 0]
    ∧ win0_3.index t = ![t.val, 0] ∧ win0_4.index t = ![t.val, 0]) ∧ (win0_5.index t = ![0, 0, 0] ∧ win0_6.index t = ![0, 0] ∧ win0_7.index t = ![0, 0]
    ∧ win0_8.index t = ![0, 0] ∧ win0_9.index t = ![0, 0] ∧ win0_10.index t = ![0, 0] ∧ win0_11.index t = ![0, 0])
    ∧ win0_12.index t = ![t.val, 0] ∧ win0_13.index t = ![t.val, 0] ∧ win0_14.index t = ![t.val, 0] :=
  (by decide +kernel : ∀ t : Fin grid0.N, _)

/-- Arguments as launched. -/
abbrev A0 (c : Dev nD) : FVec Ideal S8192x768 .f32 := m ((c.tc : Thread nD τ).loc main_arg0)
abbrev A1 (c : Dev nD) : FVec Ideal S8192x256 .f32 := m ((c.tc : Thread nD τ).loc main_arg1)
abbrev A2 (c : Dev nD) : FVec Ideal S8192x1024 .f32 := m ((c.tc : Thread nD τ).loc main_arg2)
abbrev A3 (c : Dev nD) : FVec Ideal S8192x1024 .f32 := m ((c.tc : Thread nD τ).loc main_arg3)
abbrev A4 (c : Dev nD) : FVec Ideal S8192x1024 .f32 := m ((c.tc : Thread nD τ).loc main_arg4)
abbrev A5 (c : Dev nD) : FVec Ideal S8x6144 .f32 := m ((c.tc : Thread nD τ).loc main_arg5)
abbrev A6 (c : Dev nD) : FVec Ideal S1x1024 .f32 := m ((c.tc : Thread nD τ).loc main_arg6)
abbrev A7 (c : Dev nD) : FVec Ideal S1x1024 .f32 := m ((c.tc : Thread nD τ).loc main_arg7)
abbrev A8 (c : Dev nD) : FVec Ideal S1x768x1024 .f32 := m ((c.tc : Thread nD τ).loc main_arg8)
abbrev A9 (c : Dev nD) : FVec Ideal S1x256x1024 .f32 := m ((c.tc : Thread nD τ).loc main_arg9)
abbrev A10 (c : Dev nD) : FVec Ideal S1x1024x1024 .f32 := m ((c.tc : Thread nD τ).loc main_arg10)
abbrev A11 (c : Dev nD) : FVec Ideal S1x1024x16 .f32 := m ((c.tc : Thread nD τ).loc main_arg11)

theorem V_mod (c : Dev nD) : V m c main_v3 = (shapeCast S8x1x6144 (A5 m c) shapeCasts_S8x6144_S8x1x6144 : FVec Ideal S8x1x6144 .f32) := rfl

theorem V_wpa (c : Dev nD) : V m c main_v8 = (shapeCast S768x1024 (A8 m c) shapeCasts_S1x768x1024_S768x1024 : FVec Ideal S768x1024 .f32) := rfl

theorem V_wpf (c : Dev nD) : V m c main_v9 = (shapeCast S256x1024 (A9 m c) shapeCasts_S1x256x1024_S256x1024 : FVec Ideal S256x1024 .f32) := rfl

theorem V_wout (c : Dev nD) : V m c main_v10 = (shapeCast S1024x1024 (A10 m c) shapeCasts_S1x1024x1024_S1024x1024 : FVec Ideal S1024x1024 .f32) := rfl

theorem V_wr (c : Dev nD) : V m c main_v2 = (truncf .bf16 (pad S1024x128 ![0, 0] ![0, 112] ![0, 0] (shapeCast S1024x16 (A11 m c) shapeCasts_S1x1024x16_S1024x16)
    (sitofp .f32 (constantI S_ 32 0#32)) pads_S1024x16_S1024x128_000_01120 h_S_) bitsLt_bf16_f32 : FVec Ideal S1024x128 .bf16) := rfl

theorem o_at (c : Dev nD) (t : Fin cfg0.N) (r : Fin 512) (e : Fin 768) (R : Fin 8192) (hR : (R : ℕ) = 512 * t + r) :
    (iblk m c 0 t : Vec Ideal S512x768 .bf16) (ix2 r e) = A0 m c (ix2 R e) := by
  unfold iblk
  entry_read
  blk_simp [idx t]
  pointwise
  blk_ext [idx t, hR]

theorem fm_at (c : Dev nD) (t : Fin cfg0.N) (r : Fin 512) (e : Fin 256) (R : Fin 8192) (hR : (R : ℕ) = 512 * t + r) :
    (iblk m c 1 t : Vec Ideal S512x256 .bf16) (ix2 r e) = A1 m c (ix2 R e) := by
  unfold iblk
  entry_read
  blk_simp [idx t]
  pointwise
  blk_ext [idx t, hR]

theorem ga_at (c : Dev nD) (t : Fin cfg0.N) (r : Fin 512) (e : Fin 1024) (R : Fin 8192) (hR : (R : ℕ) = 512 * t + r) :
    (iblk m c 2 t : Vec Ideal S512x1024 .bf16) (ix2 r e) = A2 m c (ix2 R e) := by
  unfold iblk
  entry_read
  blk_simp [idx t]
  pointwise
  blk_ext [idx t, hR]

theorem gf_at (c : Dev nD) (t : Fin cfg0.N) (r : Fin 512) (e : Fin 1024) (R : Fin 8192) (hR : (R : ℕ) = 512 * t + r) :
    (iblk m c 3 t : Vec Ideal S512x1024 .bf16) (ix2 r e) = A3 m c (ix2 R e) := by
  unfold iblk
  entry_read
  blk_simp [idx t]
  pointwise
  blk_ext [idx t, hR]

theorem x_at (c : Dev nD) (t : Fin cfg0.N) (r : Fin 512) (e : Fin 1024) (R : Fin 8192) (hR : (R : ℕ) = 512 * t + r) :
    (iblk m c 4 t : Vec Ideal S512x1024 .f32) (ix2 r e) = A4 m c (ix2 R e) := by
  blk_point [iblk, V, idx t, hR]

theorem mod_at (c : Dev nD) (t : Fin cfg0.N) (e : Fin 6144) :
    (iblk m c 5 t : Vec Ideal S1x1x6144 .f32) (ix3 0 0 e) = A5 m c (ix2 0 e) := by
  unfold iblk
  refine Eq.trans (congrFun (V_mod m c) _) ?_
  blk_simp [idx t]
  pointwise
  blk_ext [idx t]

theorem gpost_at (c : Dev nD) (t : Fin cfg0.N) (e : Fin 1024) :
    (iblk m c 6 t : Vec Ideal S1x1024 .f32) (ix2 0 e) = A6 m c (ix2 0 e) := by
  blk_point [iblk, V, idx t]

theorem gpre_at (c : Dev nD) (t : Fin cfg0.N) (e : Fin 1024) :
    (iblk m c 7 t : Vec Ideal S1x1024 .f32) (ix2 0 e) = A7 m c (ix2 0 e) := by
  blk_point [iblk, V, idx t]

theorem wpa_at (c : Dev nD) (t : Fin cfg0.N) (e : Fin 768) (n : Fin 1024) :
    (iblk m c 8 t : Vec Ideal S768x1024 .f32) (ix2 e n) = A8 m c (ix3 0 e n) := by
  unfold iblk
  refine Eq.trans (congrFun (V_wpa m c) _) ?_
  blk_simp [idx t]
  pointwise
  blk_ext [idx t]

theorem wpf_at (c : Dev nD) (t : Fin cfg0.N) (e : Fin 256) (n : Fin 1024) :
    (iblk m c 9 t : Vec Ideal S256x1024 .f32) (ix2 e n) = A9 m c (ix3 0 e n) := by
  unfold iblk
  refine Eq.trans (congrFun (V_wpf m c) _) ?_
  blk_simp [idx t]
  pointwise
  blk_ext [idx t]

theorem wout_at (c : Dev nD) (t : Fin cfg0.N) (e : Fin 1024) (n : Fin 1024) :
    (iblk m c 10 t : Vec Ideal S1024x1024 .f32) (ix2 e n) = A10 m c (ix3 0 e n) := by
  unfold iblk
  refine Eq.trans (congrFun (V_wout m c) _) ?_
  blk_simp [idx t]
  pointwise
  blk_ext [idx t]

theorem wr_at (c : Dev nD) (t : Fin cfg0.N) (d : Fin 1024) (n : Fin 16) :
    (iblk m c 11 t : Vec Ideal S1024x128 .bf16) (ix2 d ⟨n, by omega⟩) = A11 m c (ix3 0 d n) := by
  unfold iblk
  refine Eq.trans (congrFun (V_wr m c) _) ?_
  blk_simp [idx t]
  pointwise
  rw [dif_pos (by blk_simp [idx t]; exact n.isLt)]
  blk_ext [idx t]

end Cert.MixIdeal.Final

end
-- ==== Proof.MixValue.lean ====
/- The mixing kernel's three results are the reference's stages of the launched arguments. -/
module

public import proofs.«01_k».proof.Proof.MixPay
public import proofs.«01_k».proof.Proof.MixBlk
public import Idealize.ShloMosaic.Lib.Claim
public import Idealize.ShloMosaic.Lib.Pointwise
public import Idealize.ShloMosaic.Lib.Pipeline.ValueKit

@[expose] public section

set_option maxRecDepth 16384

noncomputable section

namespace Cert.MixIdeal.Final

open Idealize Idealize.ShloMosaic Idealize.SL.Sem Cert.MixIdeal Cert.MixIdeal.Gen Cert.MixIdeal.Body Cert.MixMath Cert.AttnMath Cert.InprojMath Cert.MixRefIdeal.Stage

variable (m : (ℓ : Loc nD τ sig) → Buf (Elt Ideal) ℓ)

/-- The reference's mixed rows of the launched arguments. -/
abbrev Y (c : Dev nD) : FVec Ideal Cert.MixRefIdeal.S8192x1024 .f32 :=
  proj (merged (A0 m c) (A1 m c) (A2 m c) (A3 m c) (A8 m c) (A9 m c)) (A10 m c)

/-- Its residual rows. -/
abbrev X1 (c : Dev nD) : FVec Ideal Cert.MixRefIdeal.S8192x1024 .f32 := res0 (A4 m c) (A5 m c) (A6 m c) (Y m c)

/-- Its modulated rows. -/
abbrev H (c : Dev nD) : FVec Ideal Cert.MixRefIdeal.S8192x1024 .f32 := hid (X1 m c) (A5 m c) (A7 m c)

/-! The rectangles read whole blocks. -/

theorem ld_0 (x : Vec Ideal S1x1x6144 .f32) : View.ld x r0_0 = x :=
  funext fun y => View.ld_unit_apply_of x _ _ _ y y (fun a => by fin_cases a <;> simp)

theorem ld_1 (x : Vec Ideal S512x768 .bf16) : View.ld x r0_1 = x :=
  funext fun y => View.ld_unit_apply_of x _ _ _ y y (fun a => by fin_cases a <;> simp)

theorem ld_2 (x : Vec Ideal S768x1024 .f32) : View.ld x r0_2 = x :=
  funext fun y => View.ld_unit_apply_of x _ _ _ y y (fun a => by fin_cases a <;> simp)

theorem ld_3 (x : Vec Ideal S512x256 .bf16) : View.ld x r0_3 = x :=
  funext fun y => View.ld_unit_apply_of x _ _ _ y y (fun a => by fin_cases a <;> simp)

theorem ld_4 (x : Vec Ideal S256x1024 .f32) : View.ld x r0_4 = x :=
  funext fun y => View.ld_unit_apply_of x _ _ _ y y (fun a => by fin_cases a <;> simp)

theorem ld_6 (x : Vec Ideal S1024x1024 .f32) : View.ld x r0_6 = x :=
  funext fun y => View.ld_unit_apply_of x _ _ _ y y (fun a => by fin_cases a <;> simp)

theorem ld_7 (x : Vec Ideal S1x1024 .f32) : View.ld x r0_7 = x :=
  funext fun y => View.ld_unit_apply_of x _ _ _ y y (fun a => by fin_cases a <;> simp)

theorem ld_16 (x : Vec Ideal S1024x128 .bf16) : View.ld x r0_16 = x :=
  funext fun y => View.ld_unit_apply_of x _ _ _ y y (fun a => by fin_cases a <;> simp)

theorem ld_5 (e : EltTy) (x : Vec Ideal S512x1024 e) : View.ld x r0_5 = x :=
  funext fun y => View.ld_unit_apply_of x _ _ _ y y (fun a => by fin_cases a <;> simp)

theorem y_at (c : Dev nD) (t : Fin cfg0.N) (r : Fin 512) (d : Fin 1024) (R : Fin 8192) (hR : (R : ℕ) = 512 * t + r) :
    (k0_pay21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S512x1024 .f32) (ix2 r d) = Y m c (ix2 R d) := by
  unfold k0_pay21
  rw [ld_1, ld_2, ld_3, ld_4, ld_5, ld_5, ld_6]
  refine (pay11_at _ _ _ _ _ _ _ r d).trans ((proj_at _ _ R d).trans ?_).symm
  refine Finset.sum_congr rfl fun k _ => ?_
  rw [merged_at, ga_at m c t r k R hR, gf_at m c t r k R hR, wout_at m c t k d]
  simp only [o_at m c t r _ R hR, fm_at m c t r _ R hR, wpa_at m c t, wpf_at m c t]

theorem sq_at (c : Dev nD) (t : Fin cfg0.N) (r : Fin 512) :
    (k0_pay22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S512 .f32) (ix1 r)
      = ∑ e, (k0_pay21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S512x1024 .f32) (ix2 r e) * (k0_pay21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S512x1024 .f32) (ix2 r e) :=
  pay12_at _ _ _ _ _ _ _ r

theorem vecs_of (c : Dev nD) (t : Fin cfg0.N) (e : Fin 1024) :
    (k0_pay18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S1x1024 .f32) (ix2 0 e) = A5 m c (ix2 0 (at6 2 e))
      ∧ (k0_pay19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S1x1024 .f32) (ix2 0 e) = A5 m c (ix2 0 (at6 3 e))
      ∧ (k0_pay20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S1x1024 .f32) (ix2 0 e) = A5 m c (ix2 0 (at6 4 e)) := by
  unfold k0_pay18 k0_pay19 k0_pay20
  rw [ld_0]
  obtain ⟨h1, h2, h3⟩ := pay8_at (iblk m c 5 t : Vec Ideal S1x1x6144 .f32) e
  exact ⟨h1.trans (mod_at m c t _), h2.trans (mod_at m c t _), h3.trans (mod_at m c t _)⟩

theorem out1_congr {x x' y y' gt gt' g g' : Fin 1024 → EReal} (hx : ∀ e, x e = x' e) (hy : ∀ e, y e = y' e) (hgt : ∀ e, gt e = gt' e)
    (hg : ∀ e, g e = g' e) (d : Fin 1024) : out1 x y gt g d = out1 x' y' gt' g' d := by
  rw [funext hx, funext hy, funext hgt, funext hg]

theorem row_congr {x x' sh sh' sc sc' g g' : Fin 1024 → EReal} (hx : ∀ e, x e = x' e) (hsh : ∀ e, sh e = sh' e) (hsc : ∀ e, sc e = sc' e)
    (hg : ∀ e, g e = g' e) (d : Fin 1024) : row x sh sc g d = row x' sh' sc' g' d := by
  rw [funext hx, funext hsh, funext hsc, funext hg]

theorem x1_at (c : Dev nD) (t : Fin cfg0.N) (r : Fin 512) (d : Fin 1024) (R : Fin 8192) (hR : (R : ℕ) = 512 * t + r) :
    (k0_pay13 (k0_pay18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 4 t) (k0_pay22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 6 t) : FVec Ideal S512x1024 .f32) (ix2 r d)
      = X1 m c (ix2 R d) := by
  refine (pay13_at _ _ _ _ _ r d (sq_at m c t r)).trans (Eq.trans ?_ (res0_at _ _ _ _ R d).symm)
  exact out1_congr (fun e => x_at m c t r e R hR) (fun e => y_at m c t r e R hR) (fun e => (vecs_of m c t e).1) (fun e => gpost_at m c t e) d

theorem h_at (c : Dev nD) (t : Fin cfg0.N) (r : Fin 512) (d : Fin 1024) (R : Fin 8192) (hR : (R : ℕ) = 512 * t + r) :
    (k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S512x1024 .f32) (ix2 r d) = H m c (ix2 R d) := by
  unfold k0_pay23
  rw [ld_5, ld_7, ld_7]
  refine (pay14_at _ _ _ _ _ _ _ _ r d).trans (Eq.trans ?_ (hid_at _ _ _ R d).symm)
  exact row_congr (fun e => x1_at m c t r e R hR) (fun e => (vecs_of m c t e).2.1) (fun e => (vecs_of m c t e).2.2) (fun e => gpre_at m c t e) d

theorem point12 (c : Dev nD) (t : Fin cfg0.N) (y : S512x1024.Idx) (j : S8192x1024.Idx) (hj0 : (j 0 : ℕ) = 512 * t + y 0) (hj1 : (j 1 : ℕ) = y 1) :
    (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S512x1024 .f32) y = X1 m c j := by
  obtain ⟨R, N, rfl⟩ : ∃ (R : Fin 8192) (N : Fin 1024), j = ix2 R N := ⟨j 0, j 1, by funext a; fin_cases a <;> rfl⟩
  unfold out0_12
  canon_tiles x h
  obtain ⟨r, n, rfl⟩ : ∃ (r : Fin 512) (n : Fin 1024), x = ix2 r n := ⟨x 0, x 1, by funext a; fin_cases a <;> rfl⟩
  have e0 : (y 0 : ℕ) = r := h0
  have e1 : (y 1 : ℕ) = n := h1
  have f0 : (R : ℕ) = 512 * t + y 0 := hj0
  have f1 : (N : ℕ) = y 1 := hj1
  obtain rfl : N = n := Fin.ext (by omega)
  rw [ld_5, ld_7]
  exact x1_at m c t r N R (by omega)

theorem final12 (c : Dev nD) : (dats m 0 c).arrAt 12 (cfgs 0).N = (X1 m c : FVec Ideal S8192x1024 .f32) := by
  refine (dats m 0 c).arrAt_eq_of_covers 12 _ (by decide +kernel) fun t _ y => ?_
  blk_simp
  rw [after0_12]
  refine point12 m c t y _ ?_ ?_ <;> blk_simp [idx t] <;> try omega

/-- The block of pieces: row `8 r + j` holds columns `128 j …` of row `r`. -/
theorem split_at (c : Dev nD) (t : Fin cfg0.N) (r : Fin 4096) (l : Fin 128) (v : EReal)
    (hv : (k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S512x1024 .f32) (ix2 ⟨r / 8, by omega⟩ ⟨r % 8 * 128 + l, by omega⟩) = v) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S4096x128 .f32) (ix2 r l) = v := by
  unfold out0_13
  refine View.canon_eq_of_allAt _ _ _ (cover0_13 _ _ _ _ _ _ _ _ _) ?_
  refine View.allAt_cons _ _ _ (strided_at 7 (by decide) _ _ _ _ (pay5_at _) r l v hv) ?_
  refine View.allAt_cons _ _ _ (strided_at 6 (by decide) _ _ _ _ (pay4_at _) r l v hv) ?_
  refine View.allAt_cons _ _ _ (strided_at 5 (by decide) _ _ _ _ (pay3_at _) r l v hv) ?_
  refine View.allAt_cons _ _ _ (strided_at 4 (by decide) _ _ _ _ (pay2_at _) r l v hv) ?_
  refine View.allAt_cons _ _ _ (strided_at 3 (by decide) _ _ _ _ (pay1_at _) r l v hv) ?_
  refine View.allAt_cons _ _ _ (strided_at 2 (by decide) _ _ _ _ (fun s l => (pay15_at _ _ _ _ _ _ _ _ s l).2.2) r l v hv) ?_
  refine View.allAt_cons _ _ _ (strided_at 1 (by decide) _ _ _ _ (fun s l => (pay15_at _ _ _ _ _ _ _ _ s l).2.1) r l v hv) ?_
  exact View.allAt_cons _ _ _ (strided_at 0 (by decide) _ _ _ _ (fun s l => (pay15_at _ _ _ _ _ _ _ _ s l).1) r l v hv) (View.allAt_nil _ _)

theorem point13 (c : Dev nD) (t : Fin cfg0.N) (y : S4096x128.Idx) (j : S65536x128.Idx) (hj0 : (j 0 : ℕ) = 4096 * t + y 0) (hj1 : (j 1 : ℕ) = y 1) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S4096x128 .f32) y = (res1 (H m c) : FVec Ideal S65536x128 .f32) j := by
  obtain ⟨R, N, rfl⟩ : ∃ (R : Fin 65536) (N : Fin 128), j = ix2 R N := ⟨j 0, j 1, by funext a; fin_cases a <;> rfl⟩
  obtain ⟨r, n, rfl⟩ : ∃ (r : Fin 4096) (n : Fin 128), y = ix2 r n := ⟨y 0, y 1, by funext a; fin_cases a <;> rfl⟩
  obtain rfl : N = n := Fin.ext hj1
  have hr : (R : ℕ) = 4096 * t + r := hj0
  refine split_at m c t r N _ (Eq.trans ?_ (res1_at (H m c) R N).symm)
  refine (h_at m c t _ _ ⟨R / 8, by omega⟩ (by simp only; omega)).trans ?_
  congr 2
  apply Fin.ext
  simp only
  omega

theorem final13 (c : Dev nD) : (dats m 0 c).arrAt 13 (cfgs 0).N = (res1 (H m c) : FVec Ideal S65536x128 .f32) := by
  refine (dats m 0 c).arrAt_eq_of_covers 13 _ (by decide +kernel) fun t _ y => ?_
  blk_simp
  rw [after0_13]
  refine point13 m c t y _ ?_ ?_ <;> blk_simp [idx t] <;> try omega

theorem point14 (c : Dev nD) (t : Fin cfg0.N) (y : S512x128.Idx) (j : S8192x128.Idx) (hj0 : (j 0 : ℕ) = 512 * t + y 0) (hj1 : (j 1 : ℕ) = y 1) :
    (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) : FVec Ideal S512x128 .f32) y = (res2 (score (H m c) (A11 m c)) : FVec Ideal S8192x128 .f32) j := by
  obtain ⟨R, N, rfl⟩ : ∃ (R : Fin 8192) (N : Fin 128), j = ix2 R N := ⟨j 0, j 1, by funext a; fin_cases a <;> rfl⟩
  unfold out0_14
  canon_tiles x h
  obtain ⟨r, n, rfl⟩ : ∃ (r : Fin 512) (n : Fin 128), x = ix2 r n := ⟨x 0, x 1, by funext a; fin_cases a <;> rfl⟩
  have e0 : (y 0 : ℕ) = r := h0
  have e1 : (y 1 : ℕ) = n := h1
  have f0 : (R : ℕ) = 512 * t + y 0 := hj0
  have f1 : (N : ℕ) = y 1 := hj1
  obtain rfl : N = n := Fin.ext (by omega)
  have hR : (R : ℕ) = 512 * t + r := by omega
  rw [ld_16]
  refine (pay6_at _ _ r N).trans (Eq.trans ?_ (res2_at _ R N).symm)
  simp only [score_at, h_at m c t r _ R hR, wr_at m c t]

theorem final14 (c : Dev nD) : (dats m 0 c).arrAt 14 (cfgs 0).N = (res2 (score (H m c) (A11 m c)) : FVec Ideal S8192x128 .f32) := by
  refine (dats m 0 c).arrAt_eq_of_covers 14 _ (by decide +kernel) fun t _ y => ?_
  blk_simp
  rw [after0_14]
  refine point14 m c t y _ ?_ ?_ <;> blk_simp [idx t] <;> try omega

end Cert.MixIdeal.Final

end
-- ==== Proof.MixRes.lean ====
/- The mixing reference's results are its stages of the arguments. -/
module

public import proofs.«01_k».proof.Proof.MixRef

@[expose] public section

set_option maxRecDepth 16384

noncomputable section

namespace Cert.MixRefIdeal.Stage

open Idealize Idealize.ShloMosaic Idealize.SL.Sem Cert.MixRefIdeal Cert.MixRefIdeal.Gen Cert.MixRefIdeal.Facts Cert.MixRefIdeal.Value

variable (m : (ℓ : Loc nD τ sig) → Buf (Elt Ideal) ℓ)

theorem res_out0_eq (c : Dev nD) : res_main_v46 m c = ((res0 (m ((c.tc : Thread nD τ).loc main_arg4)) (m ((c.tc : Thread nD τ).loc main_arg5)) (m ((c.tc : Thread nD τ).loc main_arg6)) (proj (merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9))) (m ((c.tc : Thread nD τ).loc main_arg10)))) : FVec Ideal S8192x1024 .f32) := by
  unfold res_main_v46 res0 norm proj merged sig' vecs
  rfl

theorem res_out1_eq (c : Dev nD) : res_main_v70 m c = (res1 (hid (res0 (m ((c.tc : Thread nD τ).loc main_arg4)) (m ((c.tc : Thread nD τ).loc main_arg5)) (m ((c.tc : Thread nD τ).loc main_arg6)) (proj (merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9))) (m ((c.tc : Thread nD τ).loc main_arg10)))) (m ((c.tc : Thread nD τ).loc main_arg5)) (m ((c.tc : Thread nD τ).loc main_arg7))) : FVec Ideal S65536x128 .f32) := by
  unfold res_main_v70 res1 hid res0 norm proj merged sig' vecs
  rfl

theorem res_out2_eq (c : Dev nD) : res_main_v81 m c = (res2 (score (hid (res0 (m ((c.tc : Thread nD τ).loc main_arg4)) (m ((c.tc : Thread nD τ).loc main_arg5)) (m ((c.tc : Thread nD τ).loc main_arg6)) (proj (merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9))) (m ((c.tc : Thread nD τ).loc main_arg10)))) (m ((c.tc : Thread nD τ).loc main_arg5)) (m ((c.tc : Thread nD τ).loc main_arg7))) (m ((c.tc : Thread nD τ).loc main_arg11))) : FVec Ideal S8192x128 .f32) := by
  unfold res_main_v81 res2 wgt big score hid res0 norm proj merged sig' vecs
  rfl

end Cert.MixRefIdeal.Stage

end
-- ==== Proof.MixClaim.lean ====
/- The mixing kernel computes what its reference does. -/
module

public import proofs.«01_k».proof.Defs
public import proofs.«01_k».proof.Proof.MixValue
public import proofs.«01_k».proof.Proof.MixRes
public import Idealize.ShloMosaic.Lib.Claim
public import Idealize.ShloMosaic.Lib.Pointwise
public import Idealize.ShloMosaic.Lib.Pipeline.ValueKit

@[expose] public section

set_option maxRecDepth 16384

noncomputable section

namespace Cert.MixIdeal.Final

open Idealize Idealize.ShloMosaic Idealize.SL.Sem Cert.MixIdeal Cert.MixIdeal.Gen Cert.MixIdeal.Body Cert.MixMath Cert.AttnMath Cert.InprojMath Cert.MixRefIdeal.Stage

set_option maxHeartbeats 4000000 in
/-- Kernel and reference end with the same results. -/
theorem algebraic : Cert.algebraic_MixIdeal_MixRefIdeal := by
  pair_intro
  · run_from Cert.MixIdeal.Body.run_main m g
    · exact V_main_arg0 m c
    · exact V_main_arg1 m c
    · exact V_main_arg2 m c
    · exact V_main_arg3 m c
    · exact V_main_arg5 m c
    · exact V_main_arg8 m c
    · exact V_main_arg9 m c
    · exact V_main_arg10 m c
    · exact V_main_arg11 m c
  · run_from Cert.MixRefIdeal.Value.run m' g'
    · obtain ⟨h0, h1, h2, h3, h4, h5, h6, h7, h8, h9, h10, h11⟩ := hagree c
      rw [res_out0_eq, h0, h1, h2, h3, h4, h5, h6, h8, h9, h10]
      exact (final12 m c).symm
    · obtain ⟨h0, h1, h2, h3, h4, h5, h6, h7, h8, h9, h10, h11⟩ := hagree c
      rw [res_out1_eq, h0, h1, h2, h3, h4, h5, h6, h7, h8, h9, h10]
      exact (final13 m c).symm
    · obtain ⟨h0, h1, h2, h3, h4, h5, h6, h7, h8, h9, h10, h11⟩ := hagree c
      rw [res_out2_eq, h0, h1, h2, h3, h4, h5, h6, h7, h8, h9, h10, h11]
      exact (final14 m c).symm

end Cert.MixIdeal.Final

end
-- ==== Proof.lean ====
/- The claims about the attention of the latent tokens, the experts' feed-forward, the context's input projection and its output mixing, assembled. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.AttnIdeal.Value
public import proofs.«01_k».proof.Proof.Gen.InprojIdeal.Value
public import proofs.«01_k».proof.Proof.Gen.AttnRefIdeal.Run
public import proofs.«01_k».proof.Proof.Gen.InprojRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Gen.Pre_finite_scores
public import proofs.«01_k».proof.Proof.AttnClaim
public import proofs.«01_k».proof.Proof.FfnBody
public import proofs.«01_k».proof.Proof.FfnClaim
public import proofs.«01_k».proof.Proof.InprojClaim
public import proofs.«01_k».proof.Proof.MixBody
public import proofs.«01_k».proof.Proof.MixClaim
public import Idealize.ShloMosaic.Adequacy
public import Idealize.ShloMosaic.Lib.Claim
public import Idealize.ShloMosaic.Init

@[expose] public section

noncomputable section

namespace Cert.Proof

open Idealize.ShloMosaic Idealize.SL.Sem

/-- The attention's reference: it ends, its arguments as launched. -/
theorem frame_attn_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The feed-forward's reference: it ends, its arguments as launched. -/
theorem frame_ffn_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The projection's reference: it ends, its arguments as launched. -/
theorem frame_inproj_ref : Cert.quiescent_InprojRefIdeal := fun m ρ _ =>
  (θ_run Cert.InprojRefIdeal.defs _ _).mono (fun r h => ⟨fun c => (h c).2.2.2.2.2.2.2.2, sem_eq_zero_of_no_sems (by decide) r.2⟩)
    (Cert.InprojRefIdeal.Value.run (F := Ideal) m ρ)

/-- The mixing's reference: it ends, its arguments as launched. -/
theorem frame_mix_ref : Cert.quiescent_MixRefIdeal := fun m ρ _ =>
  (θ_run Cert.MixRefIdeal.defs _ _).mono (fun r h => ⟨fun c => (h c).2.2.2, sem_eq_zero_of_no_sems (by decide) r.2⟩)
    (Cert.MixRefIdeal.Value.run (F := Ideal) m ρ)

theorem claim : Cert.Claim :=
  ⟨Cert.Attn.Gen.facts, Cert.AttnIdeal.Gen.facts, Cert.AttnRefIdeal.Gen.facts, Cert.Ffn.Gen.facts, Cert.FfnIdeal.Gen.facts, Cert.FfnRefIdeal.Gen.facts,
    Cert.Inproj.Gen.facts, Cert.InprojIdeal.Gen.facts, Cert.InprojRefIdeal.Gen.facts,
    Cert.Mix.Gen.facts, Cert.MixIdeal.Gen.facts, Cert.MixRefIdeal.Gen.facts,
    Cert.Pre_finite_scores.Gen.facts,
    fun m ρ _ => Cert.Attn.Gen.frame m ρ, fun m ρ _ => Cert.AttnIdeal.Gen.frame m ρ, fun m ρ _ => Cert.AttnIdeal.Gen.frame m ρ,
    frame_attn_ref, fun m ρ _ => frame_attn_ref m ρ trivial,
    fun m ρ _ => Cert.Ffn.Body.frame m ρ, fun m ρ _ => Cert.FfnIdeal.Body.frame m ρ, frame_ffn_ref,
    fun m ρ _ => Cert.Inproj.Gen.frame m ρ, fun m ρ _ => Cert.InprojIdeal.Gen.frame m ρ, frame_inproj_ref,
    fun m ρ _ => Cert.Mix.Body.frame m ρ, fun m ρ _ => Cert.MixIdeal.Body.frame m ρ, frame_mix_ref,
    trivial, Cert.AttnIdeal.Final.algebraic,
    IdealRules.named_const.statement _ _ _ _ _ rfl, Cert.FfnIdeal.Final.algebraic, trivial, Cert.InprojIdeal.Final.algebraic,
    IdealRules.named_const.statement _ _ _ _ _ rfl, Cert.MixIdeal.Final.algebraic⟩

end Cert.Proof

end
